-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_moderate : Cert.Pre_moderate.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ preserves_Kernel_KernelIdeal
    ∧ algebraic_KernelIdeal_ReferenceIdeal_pre_moderate (hKernelIdeal := hKernelIdeal) (hReferenceIdeal := hReferenceIdeal) (hPre_moderate := hPre_moderate)
-- ==== Pre_moderate.lean ====
abbrev S4096x64 : Shape := ⟨2, ![4096, 64]⟩
abbrev S100000x64 : Shape := ⟨2, ![100000, 64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S4096x64 .f32) (main_arg1 : FVec F S100000x64 .f32) : IVec S_ 1 :=
  let main_v0 : FVec F S4096x64 .f32 := Host.absf main_arg0
  let main_cst : FVec F S_ .f32 := constant S_ .f32 0x45505000#32
  let main_v1 : FVec F S4096x64 .f32 := broadcastInDim S4096x64 ![] bcast_S_S4096x64 main_cst
  let main_v2 : IVec S4096x64 1 := cmpf .ole main_v0 main_v1
  let main_c : IVec S_ 1 := constantI S_ 1 1#1
  let main_v3 : IVec S_ 1 := (fun x v => Host.reduce IntOp.andi x v reducesTo_S4096x64_S_d0_1 h_S_) main_v2 main_c
  let main_v4 : FVec F S100000x64 .f32 := Host.absf main_arg1
  let main_cst_0 : FVec F S_ .f32 := constant S_ .f32 0x45505000#32
  let main_v5 : FVec F S100000x64 .f32 := broadcastInDim S100000x64 ![] bcast_S_S100000x64 main_cst_0
  let main_v6 : IVec S100000x64 1 := cmpf .ole main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Kernel.lean ====
abbrev S4096x64 : Shape := ⟨2, ![4096, 64]⟩
abbrev S100000x64 : Shape := ⟨2, ![100000, 64]⟩
abbrev S_ : Shape := ⟨0, ![]⟩
abbrev S102400x64 : Shape := ⟨2, ![102400, 64]⟩
abbrev S4096 : Shape := ⟨1, ![4096]⟩
abbrev S4096x1 : Shape := ⟨2, ![4096, 1]⟩
abbrev S102400 : Shape := ⟨1, ![102400]⟩
abbrev S1x102400 : Shape := ⟨2, ![1, 102400]⟩
abbrev S2048x64 : Shape := ⟨2, ![2048, 64]⟩
abbrev S6400x64 : Shape := ⟨2, ![6400, 64]⟩
abbrev S2048x1 : Shape := ⟨2, ![2048, 1]⟩
abbrev S1x6400 : Shape := ⟨2, ![1, 6400]⟩
abbrev S2048x6400 : Shape := ⟨2, ![2048, 6400]⟩
abbrev S2048x128 : Shape := ⟨2, ![2048, 128]⟩
abbrev S1x128 : Shape := ⟨2, ![1, 128]⟩
abbrev S2048 : Shape := ⟨1, ![2048]⟩

abbrev nBuf : Space → Nat
  | .hbm => 18
  | .vmem => 12
  | .smem => 0
  | _ => 0

abbrev bufTy : (tb : Table) → Fin (tcTables nBuf tb) → BufTy
  | .hbm, ⟨0, _⟩ => ⟨S4096x64, .f32⟩
  | .hbm, ⟨1, _⟩ => ⟨S100000x64, .f32⟩
  | .hbm, ⟨2, _⟩ => ⟨S_, .f32⟩
  | .hbm, ⟨3, _⟩ => ⟨S_, .f32⟩
  | .hbm, ⟨4, _⟩ => ⟨S102400x64, .f32⟩
  | .hbm, ⟨5, _⟩ => ⟨S4096x64, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S102400x64, .f32⟩
  | .hbm, ⟨10, _⟩ => ⟨S_, .f32⟩
  | .hbm, ⟨11, _⟩ => ⟨S102400, .f32⟩
  | .hbm, ⟨12, _⟩ => ⟨S1x102400, .f32⟩
  | .hbm, ⟨13, _⟩ => ⟨S_, .f32⟩
  | .hbm, ⟨14, _⟩ => ⟨S102400x64, .f32⟩
  | .hbm, ⟨15, _⟩ => ⟨S102400x64, .f32⟩
  | .hbm, ⟨16, _⟩ => ⟨S4096x1, .f32⟩
  | .hbm, ⟨17, _⟩ => ⟨S4096x1, .i32⟩
  | .local _ .vmem, ⟨0, _⟩ => ⟨S2048x64, .f32⟩
  | .local _ .vmem, ⟨1, _⟩ => ⟨S2048x64, .f32⟩
  | .local _ .vmem, ⟨2, _⟩ => ⟨S6400x64, .f32⟩
  | .local _ .vmem, ⟨3, _⟩ => ⟨S6400x64, .f32⟩
  | .local _ .vmem, ⟨4, _⟩ => ⟨S2048x1, .f32⟩
  | .local _ .vmem, ⟨5, _⟩ => ⟨S2048x1, .f32⟩
  | .local _ .vmem, ⟨6, _⟩ => ⟨S1x6400, .f32⟩
  | .local _ .vmem, ⟨7, _⟩ => ⟨S1x6400, .f32⟩
  | .local _ .vmem, ⟨8, _⟩ => ⟨S2048x1, .f32⟩
  | .local _ .vmem, ⟨9, _⟩ => ⟨S2048x1, .f32⟩
  | .local _ .vmem, ⟨10, _⟩ => ⟨S2048x1, .i32⟩
  | .local _ .vmem, ⟨11, _⟩ => ⟨S2048x1, .i32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_call0_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst_1 : Ref sig .tc := ⟨.hbm, 10, rfl⟩
abbrev main_call0_v5 : Ref sig .tc := ⟨.hbm, 11, rfl⟩
abbrev main_call0_v6 : Ref sig .tc := ⟨.hbm, 12, rfl⟩
abbrev main_call0_cst_2 : Ref sig .tc := ⟨.hbm, 13, rfl⟩
abbrev main_call0_v7 : Ref sig .tc := ⟨.hbm, 14, rfl⟩
abbrev main_call0_v8 : Ref sig .tc := ⟨.hbm, 15, rfl⟩
abbrev main_v0_0 : Ref sig .tc := ⟨.hbm, 16, rfl⟩
abbrev main_v0_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32_9 : BitVec 32 := 0#32
  let v471 : BitVec 1 := Scalar.cmpi .eq arg1 c0_i32_9
  let v472 : BitVec 32 := Scalar.extui v471
  let c0_i32_10 : BitVec 32 := 0#32
  let v473 : BitVec 1 := Scalar.cmpi .ne v472 c0_i32_10
  v473

def k0_cond2 (i : grid0.Coords) : BitVec 1 :=
  let arg1 : BitVec 32 := BitVec.ofNat 32 (i 1).val
  let c0_i32_11 : BitVec 32 := 0#32
  let v474 : BitVec 1 := Scalar.cmpi .sgt arg1 c0_i32_11
  let v475 : BitVec 32 := Scalar.extui v474
  let c0_i32_12 : BitVec 32 := 0#32
  let v476 : BitVec 1 := Scalar.cmpi .ne v475 c0_i32_12
  v476

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S4096x64 : Shape := ⟨2, ![4096, 64]⟩
abbrev S100000x64 : Shape := ⟨2, ![100000, 64]⟩
abbrev S_ : Shape := ⟨0, ![]⟩
abbrev S4096 : Shape := ⟨1, ![4096]⟩
abbrev S4096x1 : Shape := ⟨2, ![4096, 1]⟩
abbrev S100000 : Shape := ⟨1, ![100000]⟩
abbrev S1x100000 : Shape := ⟨2, ![1, 100000]⟩
abbrev S64x100000 : Shape := ⟨2, ![64, 100000]⟩
abbrev S4096x100000 : Shape := ⟨2, ![4096, 100000]⟩

abbrev nBuf : Space → Nat
  | .hbm => 28
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S100000x64, .f32⟩
  | .hbm, ⟨2, _⟩ => ⟨S4096x64, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S100000x64, .f32⟩
  | .hbm, ⟨7, _⟩ => ⟨S_, .f32⟩
  | .hbm, ⟨8, _⟩ => ⟨S100000, .f32⟩
  | .hbm, ⟨9, _⟩ => ⟨S1x100000, .f32⟩
  | .hbm, ⟨10, _⟩ => ⟨S64x100000, .f32⟩
  | .hbm, ⟨11, _⟩ => ⟨S4096x100000, .f32⟩
  | .hbm, ⟨12, _⟩ => ⟨S4096x100000, .f32⟩
  | .hbm, ⟨13, _⟩ => ⟨S4096x100000, .f32⟩
  | .hbm, ⟨14, _⟩ => ⟨S4096x100000, .f32⟩
  | .hbm, ⟨15, _⟩ => ⟨S_, .f32⟩
  | .hbm, ⟨16, _⟩ => ⟨S4096x100000, .f32⟩
  | .hbm, ⟨17, _⟩ => ⟨S4096x100000, .f32⟩
  | .hbm, ⟨18, _⟩ => ⟨S4096x100000, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S4096x100000, .i32⟩
  | .hbm, ⟨23, _⟩ => ⟨S_, .f32⟩
  | .hbm, ⟨24, _⟩ => ⟨S_, .i32⟩
  | .hbm, ⟨25, _⟩ => ⟨S4096, .f32⟩
  | .hbm, ⟨26, _⟩ => ⟨S4096, .i32⟩
  | .hbm, ⟨27, _⟩ => ⟨S4096x1, .i32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Proof.Chain.lean ====
/-
  The kernel body's fifty chunks as one recursion. The body keeps, for each query row and each of 128 lanes, the least
  distance met so far and the number of the chunk it was met in (`runMin`, `runChunk`); the printed text spells the
  fifty steps out, in nine stretches, each of which is a piece of the recursion (`stretch_…`). What the body stores is
  then the least over the lanes of the last state (`localMin`) and the least position having it (`localArg`).
-/
module

public import proofs.«01_k».proof.Proof.Gen.KernelIdeal.Value
public import Idealize.ShloMosaic.Lib.Tactic

@[expose] public section

noncomputable section

open Idealize.ShloMosaic Idealize.ShloMosaic.TcCoe Idealize.SL.Sem

namespace Cert.KernelIdeal.Value

open Cert.KernelIdeal Cert.KernelIdeal.Gen

variable {F : FTy → Type} [FloatOps F]

/-- Chunk `n` of the row of key norms lies inside it. -/
theorem slices_norms {n : ℕ} (hn : n < 50) : S1x6400.Slices ![0, 128 * n] S1x128 :=
  ⟨rfl, fun a => match a with
    | ⟨0, _⟩ => by show 0 + 1 ≤ 1; omega
    | ⟨1, _⟩ => by show 128 * n + 128 ≤ 6400; omega⟩

/-- Chunk `n` of the block of products lies inside it. -/
theorem slices_products {n : ℕ} (hn : n < 50) : S2048x6400.Slices ![0, 128 * n] S2048x128 :=
  ⟨rfl, fun a => match a with
    | ⟨0, _⟩ => by show 0 + 2048 ≤ 2048; omega
    | ⟨1, _⟩ => by show 128 * n + 128 ≤ 6400; omega⟩

section Steps

variable (p : FVec F S2048x6400 .f32) (q : FVec F S2048x128 .f32) (k : FVec F S1x6400 .f32)

/-- Chunk `n` of the key norms, repeated down the query rows. -/
def chunkNorms (n : ℕ) (hn : n < 50) : FVec F S2048x128 .f32 :=
  broadcastTo S2048x128 (extractStridedSlice S1x128 ![0, 128 * n] k (slices_norms hn)) broadcasts_S1x128_S2048x128

/-- The squared distances of chunk `n`: query norm plus key norm, minus the doubled product. -/
def chunkDist (n : ℕ) (hn : n < 50) : FVec F S2048x128 .f32 :=
  subf (addf q (chunkNorms k n hn)) (extractStridedSlice S2048x128 ![0, 128 * n] p (slices_products hn))

/-- The least distance of each lane over the chunks up to `n`. -/
def runMin : (n : ℕ) → n < 50 → FVec F S2048x128 .f32
  | 0, hn => chunkDist p q k 0 hn
  | n + 1, hn => select (cmpf .olt (chunkDist p q k (n + 1) hn) (runMin n (Nat.lt_of_succ_lt hn)))
      (chunkDist p q k (n + 1) hn) (runMin n (Nat.lt_of_succ_lt hn))

/-- The chunk each lane's least distance over the chunks up to `n` was first met in. -/
def runChunk : (n : ℕ) → n < 50 → IVec S2048x128 32
  | 0, _ => broadcast S2048x128 0#32
  | n + 1, hn => select (cmpf .olt (chunkDist p q k (n + 1) hn) (runMin p q k n (Nat.lt_of_succ_lt hn)))
      (broadcast S2048x128 (BitVec.ofNat 32 (n + 1))) (runChunk n (Nat.lt_of_succ_lt hn))

/-- The least distance over the block's 6400 keys. -/
def localMin : FVec F S2048 .f32 :=
  multiReduction .minimumf [1] S2048 (runMin p q k 49 (by decide)) 0x7F800000#32 reduces_S2048x128_S2048 (.inl rfl) rfl

/-- The position each lane's least distance was met at, counted over all keys: chunk, lane and block. -/
def lanePos (j : BitVec 32) : IVec S2048x128 32 :=
  addi (addi (muli (runChunk p q k 49 (by decide)) (broadcast S2048x128 128#32))
    (iota .tc S2048x128 32 [1] iota_S2048x128_d1_w32)) (broadcast S2048x128 (Scalar.muli j 6400#32))

/-- The least position at which the block's least distance is met. -/
def localArg (j : BitVec 32) : IVec S2048 32 :=
  multiReductionI .minsi [1] S2048
    (select (cmpf .oeq (runMin p q k 49 (by decide))
        (broadcastTo S2048x128 (shapeCast S2048x1 (localMin p q k) shapeCasts_S2048_S2048x1) broadcasts_S2048x1_S2048x128))
      (lanePos p q k j) (broadcast S2048x128 2147483647#32))
    2147483647#32 reduces_S2048x128_S2048 rfl

end Steps

/-! ## What one run of the body leaves in its two results' blocks -/

section Body

/-- The offsets of every load and store of the body. -/
theorem zero_offsets : (![0, 0] : Fin 2 → Nat) = fun _ => 0 := funext fun a => by fin_cases a <;> rfl

/-- The block's least distances, from the four input blocks. -/
def blockMin (x0 : Vec F S2048x64 .f32) (x1 : Vec F S6400x64 .f32) (x2 : Vec F S2048x1 .f32) (x3 : Vec F S1x6400 .f32) :
    FVec F S2048 .f32 :=
  localMin (k0_pay7 x0 x1) (k0_pay8 x2) (k0_pay9 x3)

/-- The positions of the block's least distances, from the four input blocks and the block's number. -/
def blockArg (j : BitVec 32) (x0 : Vec F S2048x64 .f32) (x1 : Vec F S6400x64 .f32) (x2 : Vec F S2048x1 .f32) (x3 : Vec F S1x6400 .f32) :
    IVec S2048 32 :=
  localArg (k0_pay7 x0 x1) (k0_pay8 x2) (k0_pay9 x3) j

/-- The number of the key block, as the word the body computes with. -/
abbrev gridWord (i : grid0.Coords) : BitVec 32 := BitVec.ofNat 32 (i 1).val

variable (c : Dev nD) (i : grid0.Coords) (arg2 : Memref sig .tc .vmem S2048x64 .f32) (harg2 : arg2.IsWhole)
    (arg3 : Memref sig .tc .vmem S6400x64 .f32) (harg3 : arg3.IsWhole) (arg4 : Memref sig .tc .vmem S2048x1 .f32)
    (harg4 : arg4.IsWhole) (arg5 : Memref sig .tc .vmem S1x6400 .f32) (harg5 : arg5.IsWhole)
    (arg6 : Memref sig .tc .vmem S2048x1 .f32) (harg6 : arg6.IsWhole) (arg7 : Memref sig .tc .vmem S2048x1 .i32)
    (harg7 : arg7.IsWhole)

/-- At a row of blocks' first block the least distances are stored as they are. -/
theorem out_A4 (hc0 : cond0_0 i) (hc1 : ¬cond0_1 i) (x0 : Vec F S2048x64 .f32) (x1 : Vec F S6400x64 .f32) (x2 : Vec F S2048x1 .f32) (x3 : Vec F S1x6400 .f32) :
    out0_A_4 c i arg2 harg2 arg3 harg3 arg4 harg4 arg5 harg5 arg6 harg6 arg7 harg7 hc0 hc1 x0 x1 x2 x3
      = shapeCast S2048x1 (blockMin x0 x1 x2 x3) shapeCasts_S2048_S2048x1 := by
  unfold out0_A_4
  rw [View.read_writes_eq_canon _ _ _ (cover0_A_4 c i arg2 harg2 arg3 harg3 arg4 harg4 arg5 harg5 arg6 harg6 arg7 harg7 hc0 hc1 x0 x1 x2 x3)]
  unfold kernelRun0_A
  dsimp only
  rw [View.canon_unit_zero zero_offsets]
  sl_unfold_words
  simp only [View.readAt_eq_ld, harg2.read_unread, harg3.read_unread, harg4.read_unread, harg5.read_unread,
    harg6.read_unread, harg7.read_unread, View.ld_unit_zero (S := S2048x64) zero_offsets,
    View.ld_unit_zero (S := S6400x64) zero_offsets, View.ld_unit_zero (S := S2048x1) zero_offsets,
    View.ld_unit_zero (S := S1x6400) zero_offsets]
  rfl

/-- At a row of blocks' first block the positions are stored as they are. -/
theorem out_A5 (hc0 : cond0_0 i) (hc1 : ¬cond0_1 i) (x0 : Vec F S2048x64 .f32) (x1 : Vec F S6400x64 .f32) (x2 : Vec F S2048x1 .f32) (x3 : Vec F S1x6400 .f32) :
    out0_A_5 c i arg2 harg2 arg3 harg3 arg4 harg4 arg5 harg5 arg6 harg6 arg7 harg7 hc0 hc1 x0 x1 x2 x3
      = shapeCast S2048x1 (blockArg (gridWord i) x0 x1 x2 x3) shapeCasts_S2048_S2048x1 := by
  unfold out0_A_5
  rw [View.read_writes_eq_canon _ _ _ (cover0_A_5 c i arg2 harg2 arg3 harg3 arg4 harg4 arg5 harg5 arg6 harg6 arg7 harg7 hc0 hc1 x0 x1 x2 x3)]
  unfold kernelRun0_A
  dsimp only
  rw [View.canon_unit_zero zero_offsets]
  sl_unfold_words
  simp only [View.readAt_eq_ld, harg2.read_unread, harg3.read_unread, harg4.read_unread, harg5.read_unread,
    harg6.read_unread, harg7.read_unread, View.ld_unit_zero (S := S2048x64) zero_offsets,
    View.ld_unit_zero (S := S6400x64) zero_offsets, View.ld_unit_zero (S := S2048x1) zero_offsets,
    View.ld_unit_zero (S := S1x6400) zero_offsets]
  rfl

/-- At a later block the stored least distances are updated. -/
theorem out_B4 (hc0 : ¬cond0_0 i) (hc1 : cond0_1 i) (x0 : Vec F S2048x64 .f32) (x1 : Vec F S6400x64 .f32) (x2 : Vec F S2048x1 .f32) (x3 : Vec F S1x6400 .f32)
    (xo4 : Vec F S2048x1 .f32) (xo5 : Vec F S2048x1 .i32) :
    out0_B_4 c i arg2 harg2 arg3 harg3 arg4 harg4 arg5 harg5 arg6 harg6 arg7 harg7 hc0 hc1 x0 x1 x2 x3 xo4 xo5
      = k0_pay5 (blockMin x0 x1 x2 x3) xo4 := by
  unfold out0_B_4
  rw [View.read_writes_eq_canon _ _ _ (cover0_B_4 c i arg2 harg2 arg3 harg3 arg4 harg4 arg5 harg5 arg6 harg6 arg7 harg7 hc0 hc1 x0 x1 x2 x3 xo4 xo5)]
  unfold kernelRun0_B
  dsimp only
  rw [View.canon_unit_zero zero_offsets]
  sl_unfold_words
  simp only [View.readAt_eq_ld, harg2.read_unread, harg3.read_unread, harg4.read_unread, harg5.read_unread,
    harg6.read_unread, harg7.read_unread, View.ld_unit_zero (S := S2048x64) zero_offsets,
    View.ld_unit_zero (S := S6400x64) zero_offsets, View.ld_unit_zero (S := S2048x1) zero_offsets,
    View.ld_unit_zero (S := S1x6400) zero_offsets]
  rfl

/-- At a later block the stored positions are updated where the distance is. -/
theorem out_B5 (hc0 : ¬cond0_0 i) (hc1 : cond0_1 i) (x0 : Vec F S2048x64 .f32) (x1 : Vec F S6400x64 .f32) (x2 : Vec F S2048x1 .f32) (x3 : Vec F S1x6400 .f32)
    (xo4 : Vec F S2048x1 .f32) (xo5 : Vec F S2048x1 .i32) :
    out0_B_5 c i arg2 harg2 arg3 harg3 arg4 harg4 arg5 harg5 arg6 harg6 arg7 harg7 hc0 hc1 x0 x1 x2 x3 xo4 xo5
      = k0_pay6 (blockMin x0 x1 x2 x3) (blockArg (gridWord i) x0 x1 x2 x3) xo4 xo5 := by
  unfold out0_B_5
  rw [View.read_writes_eq_canon _ _ _ (cover0_B_5 c i arg2 harg2 arg3 harg3 arg4 harg4 arg5 harg5 arg6 harg6 arg7 harg7 hc0 hc1 x0 x1 x2 x3 xo4 xo5)]
  unfold kernelRun0_B
  dsimp only
  rw [View.canon_unit_zero zero_offsets]
  sl_unfold_words
  simp only [View.readAt_eq_ld, harg2.read_unread, harg3.read_unread, harg4.read_unread, harg5.read_unread,
    harg6.read_unread, harg7.read_unread, View.ld_unit_zero (S := S2048x64) zero_offsets,
    View.ld_unit_zero (S := S6400x64) zero_offsets, View.ld_unit_zero (S := S2048x1) zero_offsets,
    View.ld_unit_zero (S := S1x6400) zero_offsets]
  rfl

end Body

end Cert.KernelIdeal.Value

end
-- ==== Proof.FirstMin.lean ====
/-
  The mathematics of "the least value and where it first occurs", as the kernel and the reference both use it: when a
  pair (value, position) is the first minimum of a function over a set of positions (`IsFirstMin`), how two such pairs
  over neighbouring sets combine under a strict comparison, how one pair per lane combines into one, and what a left
  fold of a choosing operation leaves (`foldl_least`), which reads every reduction of the two programs.
-/
module

public import Idealize.ShloMosaic.PureOps.Reduce
public import Idealize.ShloMosaic.PureOps.Ideal.Laws
public import Mathlib.Data.EReal.Operations

@[expose] public section

namespace Cert.NearestKey

open Idealize.ShloMosaic

/-- `v` is the least value of `f` on the positions in `S`, and `a` is the first position in `S` where `f` has it. -/
structure IsFirstMin (S : ℕ → Prop) (f : ℕ → EReal) (v : EReal) (a : ℕ) : Prop where
  mem : S a
  val : f a = v
  le : ∀ n, S n → v ≤ f n
  first : ∀ n, S n → n < a → v < f n

namespace IsFirstMin

variable {S T : ℕ → Prop} {f g : ℕ → EReal} {v w : EReal} {a b : ℕ}

/-- A function has at most one first minimum on a set. -/
theorem unique (h : IsFirstMin S f v a) (h' : IsFirstMin S f w b) : v = w ∧ a = b := by
  have hvw : v = w := le_antisymm (h'.val ▸ h.le b h'.mem) (h.val ▸ h'.le a h.mem)
  refine ⟨hvw, ?_⟩
  rcases lt_trichotomy a b with hab | hab | hab
  · exact absurd (h'.first a h.mem hab) (by rw [h.val, hvw]; exact lt_irrefl _)
  · exact hab
  · exact absurd (h.first b h'.mem hab) (by rw [h'.val, hvw]; exact lt_irrefl _)

/-- On one position the first minimum is the value there. -/
theorem single (f : ℕ → EReal) (n : ℕ) : IsFirstMin (fun k => k = n) f (f n) n :=
  ⟨rfl, rfl, fun _ h => h ▸ le_rfl, fun k h hk => absurd hk (by omega)⟩

/-- The set may be described in another way. -/
theorem congr_set (h : IsFirstMin S f v a) (hST : ∀ n, T n ↔ S n) : IsFirstMin T f v a :=
  ⟨(hST a).2 h.mem, h.val, fun n hn => h.le n ((hST n).1 hn), fun n hn => h.first n ((hST n).1 hn)⟩

/-- Only the values on the set matter. -/
theorem congr_fun (h : IsFirstMin S f v a) (hfg : ∀ n, S n → g n = f n) : IsFirstMin S g v a :=
  ⟨h.mem, (hfg a h.mem).trans h.val, fun n hn => (hfg n hn).symm ▸ h.le n hn,
    fun n hn hna => (hfg n hn).symm ▸ h.first n hn hna⟩

/-- A strictly smaller first minimum over later positions replaces the earlier one. -/
theorem take_later (h : IsFirstMin S f v a) (h' : IsFirstMin T f w b) (hlt : w < v) :
    IsFirstMin (fun n => S n ∨ T n) f w b :=
  ⟨.inr h'.mem, h'.val, fun n hn => hn.elim (fun hs => hlt.le.trans (h.le n hs)) (h'.le n),
    fun n hn hnb => hn.elim (fun hs => hlt.trans_le (h.le n hs)) fun ht => h'.first n ht hnb⟩

/-- One that is not strictly smaller leaves the earlier one, which also keeps the earlier position on a tie. -/
theorem keep_earlier (h : IsFirstMin S f v a) (h' : IsFirstMin T f w b) (hST : ∀ s t, S s → T t → s < t)
    (hlt : ¬w < v) : IsFirstMin (fun n => S n ∨ T n) f v a :=
  ⟨.inl h.mem, h.val, fun n hn => hn.elim (h.le n) fun ht => (not_lt.1 hlt).trans (h'.le n ht),
    fun n hn hna => hn.elim (fun hs => h.first n hs hna) fun ht => absurd (hST a n h.mem ht) (by omega)⟩

/-- First minima of a family of sets combine: the least of their values, and among those that have it the least position. -/
theorem iUnion {ι : Type} {Sl : ι → ℕ → Prop} {vl : ι → EReal} {al : ι → ℕ} (h : ∀ l, IsFirstMin (Sl l) f (vl l) (al l))
    (hle : ∀ l, v ≤ vl l) (hmem : ∃ l, vl l = v ∧ al l = a) (hfirst : ∀ l, vl l = v → a ≤ al l) :
    IsFirstMin (fun n => ∃ l, Sl l n) f v a := by
  obtain ⟨l₀, hv, ha⟩ := hmem
  refine ⟨⟨l₀, ha ▸ (h l₀).mem⟩, ?_, fun n ⟨l, hl⟩ => (hle l).trans ((h l).le n hl), fun n ⟨l, hl⟩ hna => ?_⟩
  · rw [← ha, (h l₀).val, hv]
  · rcases (hle l).lt_or_eq with hlt | heq
    · exact hlt.trans_le ((h l).le n hl)
    · have := hfirst l heq.symm
      rw [heq]; exact (h l).first n hl (by omega)

/-- Further positions none of which is below every earlier one do not move the first minimum. -/
theorem restrict {M N : ℕ} (h : IsFirstMin (· < N) f v a) (hMN : M ≤ N)
    (hpad : ∀ n, M ≤ n → n < N → ∃ k, k < M ∧ f k ≤ f n) : IsFirstMin (· < M) f v a := by
  refine ⟨?_, h.val, fun n hn => h.le n (lt_of_lt_of_le hn hMN), fun n hn => h.first n (lt_of_lt_of_le hn hMN)⟩
  by_contra hM
  obtain ⟨k, hk, hle⟩ := hpad a (not_lt.1 hM) h.mem
  have := h.first k (lt_of_lt_of_le hk hMN) (lt_of_lt_of_le hk (not_lt.1 hM))
  rw [← h.val] at this
  exact absurd this (not_lt.2 hle)

end IsFirstMin

/-! ## What a fold of a choosing operation leaves -/

/-- A left fold of an operation that returns one of its two operands, below both for `R`, leaves the initial element or
    one of those read, and it is below all of them. -/
theorem foldl_least {α ι : Type} {R : α → α → Prop} (hrefl : ∀ a, R a a) (htrans : ∀ a b c, R a b → R b c → R a c)
    {op : α → α → α} (hop : ∀ a b, (op a b = a ∨ op a b = b) ∧ R (op a b) a ∧ R (op a b) b) (g : ι → α) (l : List ι)
    (init : α) : let r := l.foldl (fun r i => op r (g i)) init
      (r = init ∨ ∃ i ∈ l, r = g i) ∧ R r init ∧ ∀ i ∈ l, R r (g i) := by
  induction l generalizing init with
  | nil => exact ⟨.inl rfl, hrefl _, fun i hi => absurd hi List.not_mem_nil⟩
  | cons k l ih =>
    obtain ⟨hmem, hinit, hall⟩ := ih (op init (g k))
    obtain ⟨hone, hleft, hright⟩ := hop init (g k)
    refine ⟨?_, htrans _ _ _ hinit hleft, fun i hi => ?_⟩
    · rcases hmem with h | ⟨i, hi, h⟩
      · rcases hone with h1 | h1
        · exact .inl (h.trans h1)
        · exact .inr ⟨k, List.mem_cons_self, h.trans h1⟩
      · exact .inr ⟨i, List.mem_cons_of_mem _ hi, h⟩
    · rcases List.mem_cons.1 hi with rfl | hi
      · exact htrans _ _ _ hinit hright
      · exact hall i hi

/-- The indices a reduction reads for the result index `j`, listed in row-major order: those that drop to `j`. -/
theorem mem_fiber {s t : Shape} {drop : s.Idx → t.Idx} {i : s.Idx} {j : t.Idx} :
    i ∈ ((List.finRange s.numel).map s.rowMajor.symm).filter (fun i => drop i = j) ↔ drop i = j := by
  rw [List.mem_filter, decide_eq_true_eq]
  exact ⟨And.right, fun h => ⟨List.mem_map.2 ⟨s.rowMajor i, List.mem_finRange _, s.rowMajor.symm_apply_apply i⟩, h⟩⟩

section Reductions

variable {s t u : Shape} {axes : List (Fin s.rank)} {α : Type} {R : α → α → Prop} (hrefl : ∀ a, R a a)
  (htrans : ∀ a b c, R a b → R b c → R a c) {op : α → α → α}
  (hop : ∀ a b, (op a b = a ∨ op a b = b) ∧ R (op a b) a ∧ R (op a b) b)

include hrefl htrans hop

/-- A kernel reduction by such an operation, read at an index of the result. -/
theorem reduceFold_least (h : s.Reduces axes t) (init : α) (x : s.Idx → α) (j : t.Idx) :
    (reduceFold h op init x j = init ∨ ∃ i, h.drop i = j ∧ reduceFold h op init x j = x i)
      ∧ ∀ i, h.drop i = j → R (reduceFold h op init x j) (x i) := by
  rw [reduceFold_eq_foldl]
  obtain ⟨hmem, -, hall⟩ := foldl_least hrefl htrans hop x
    (((List.finRange s.numel).map s.rowMajor.symm).filter fun i => h.drop i = j) init
  refine ⟨?_, fun i hi => hall i (mem_fiber.2 hi)⟩
  rcases hmem with he | ⟨i, hi, he⟩
  · exact .inl he
  · exact .inr ⟨i, mem_fiber.1 hi, he⟩

/-- A host reduction by such an operation, read at an index of the result. -/
theorem hostReduce_least (h : s.ReducesTo axes t) (init : u.Idx → α) (hu : 0 < u.numel) (x : s.Idx → α) (j : t.Idx) :
    (Host.reduce op x init h hu j = init (Shape.Idx.first hu)
        ∨ ∃ i, h.drop i = j ∧ Host.reduce op x init h hu j = x i)
      ∧ ∀ i, h.drop i = j → R (Host.reduce op x init h hu j) (x i) := by
  rw [Host.reduce_eq_foldl]
  obtain ⟨hmem, -, hall⟩ := foldl_least hrefl htrans hop x
    (((List.finRange s.numel).map s.rowMajor.symm).filter fun i => h.drop i = j) (init (Shape.Idx.first hu))
  refine ⟨?_, fun i hi => hall i (mem_fiber.2 hi)⟩
  rcases hmem with he | ⟨i, hi, he⟩
  · exact .inl he
  · exact .inr ⟨i, mem_fiber.1 hi, he⟩

end Reductions

/-- A host reduction of pairs by such an operation, read at an index of the result. -/
theorem hostReduce2_least {s t u : Shape} {axes : List (Fin s.rank)} {α β : Type} {R : α × β → α × β → Prop}
    (hrefl : ∀ a, R a a) (htrans : ∀ a b c, R a b → R b c → R a c) {op : α × β → α × β → α × β}
    (hop : ∀ a b, (op a b = a ∨ op a b = b) ∧ R (op a b) a ∧ R (op a b) b)
    (h : s.ReducesTo axes t) (ix : u.Idx → α) (iy : u.Idx → β) (hu : 0 < u.numel) (x : s.Idx → α) (y : s.Idx → β)
    (j : t.Idx) :
    (Host.reduce2 op x y ix iy h hu j = (ix (Shape.Idx.first hu), iy (Shape.Idx.first hu))
        ∨ ∃ i, h.drop i = j ∧ Host.reduce2 op x y ix iy h hu j = (x i, y i))
      ∧ ∀ i, h.drop i = j → R (Host.reduce2 op x y ix iy h hu j) (x i, y i) := by
  unfold Host.reduce2
  obtain ⟨hmem, -, hall⟩ := foldl_least hrefl htrans hop (fun n => (x (s.rowMajor.symm n), y (s.rowMajor.symm n)))
    ((List.finRange s.numel).filter fun n => h.drop (s.rowMajor.symm n) = j)
    (ix (Shape.Idx.first hu), iy (Shape.Idx.first hu))
  refine ⟨?_, fun i hi => ?_⟩
  · rcases hmem with he | ⟨n, hn, he⟩
    · exact .inl he
    · exact .inr ⟨s.rowMajor.symm n, by simpa using (List.mem_filter.1 hn).2, he⟩
  have := hall (s.rowMajor i) (List.mem_filter.2 ⟨List.mem_finRange _, by simpa using hi⟩)
  simpa using this

/-! ## The choosing operations of the two programs -/

/-- The smaller of two extended reals is one of them and at most both. -/
theorem minimumf_chooses (a b : EReal) :
    (FloatOps.minimumf (F := Ideal) (φ := .f32) a b = a ∨ FloatOps.minimumf (F := Ideal) (φ := .f32) a b = b)
      ∧ FloatOps.minimumf (F := Ideal) (φ := .f32) a b ≤ a ∧ FloatOps.minimumf (F := Ideal) (φ := .f32) a b ≤ b :=
  ⟨min_choice a b, min_le_left a b, min_le_right a b⟩

/-- The smaller of two words, read as signed numbers, is one of them and at most both. -/
theorem minsi_chooses (a b : BitVec 32) :
    (IntOp.minsi a b = a ∨ IntOp.minsi a b = b) ∧ (IntOp.minsi a b).toInt ≤ a.toInt ∧ (IntOp.minsi a b).toInt ≤ b.toInt := by
  simp only [IntOp.minsi, BitVec.slt, decide_eq_true_eq]
  split_ifs with h
  · exact ⟨.inl rfl, le_rfl, h.le⟩
  · exact ⟨.inr rfl, not_lt.1 h, le_rfl⟩

/-- A position below 2³¹ as a word, read as a signed number, is itself. -/
theorem toInt_ofNat {n : ℕ} (hn : n < 2147483648) : (BitVec.ofNat 32 n).toInt = n := by
  rw [BitVec.toInt_eq_toNat_of_lt (by rw [BitVec.toNat_ofNat]; omega), BitVec.toNat_ofNat,
    Nat.mod_eq_of_lt (by omega)]

/-- A comparison at the ideal values is the word `1` exactly when the extended reals compare. -/
theorem cmpf_olt_iff (a b : EReal) : FloatOps.cmpf (F := Ideal) (φ := .f32) .olt a b = 1#1 ↔ a < b := by
  rw [Ideal.cmpf_def]; unfold Ideal.cmp
  by_cases h : a < b <;> simp [h]

/-- The same for equality. -/
theorem cmpf_oeq_iff (a b : EReal) : FloatOps.cmpf (F := Ideal) (φ := .f32) .oeq a b = 1#1 ↔ a = b := by
  rw [Ideal.cmpf_def]; unfold Ideal.cmp
  by_cases h : a = b <;> simp [h]

/-- Selecting by a comparison is a conditional. -/
theorem select_olt {α : Type} (a b : EReal) (x y : α) :
    Scalar.select (FloatOps.cmpf (F := Ideal) (φ := .f32) .olt a b) x y = if a < b then x else y := by
  unfold Scalar.select
  by_cases h : a < b
  · rw [if_pos h]; exact if_pos ((cmpf_olt_iff a b).2 h)
  · rw [if_neg h]; exact if_neg (mt (cmpf_olt_iff a b).1 h)

/-- Selecting by an equality is a conditional. -/
theorem select_oeq {α : Type} (a b : EReal) (x y : α) :
    Scalar.select (FloatOps.cmpf (F := Ideal) (φ := .f32) .oeq a b) x y = if a = b then x else y := by
  unfold Scalar.select
  by_cases h : a = b
  · rw [if_pos h]; exact if_pos ((cmpf_oeq_iff a b).2 h)
  · rw [if_neg h]; exact if_neg (mt (cmpf_oeq_iff a b).1 h)

end Cert.NearestKey
-- ==== Proof.Block.lean ====
/-
  What one run of the body computes, in numbers: over the extended reals the values `blockMin` and `blockArg` of
  Chain.lean are, for each query row, the first minimum of the row's distances over the block's 6400 keys
  (`block_firstMin`). The order of the steps is the body's own: chunk after chunk in each lane (`lane_firstMin`), then
  over the lanes.
-/
module

public import proofs.«01_k».proof.Proof.Chain
public import proofs.«01_k».proof.Proof.FirstMin
public import Idealize.ShloMosaic.Lib.ValueIdx
public import Idealize.ShloMosaic.Lib.ValueLayoutCasts
public import Idealize.ShloMosaic.Lib.Pipeline.Value

@[expose] public section

noncomputable section

open Idealize.ShloMosaic Idealize.ShloMosaic.TcCoe Idealize.SL.Sem

namespace Cert.KernelIdeal.Value

open Cert.KernelIdeal Cert.KernelIdeal.Gen Cert.NearestKey
open Idealize.ShloMosaic.ValueIdx

/-- A column cast to a vector reads, at `r`, the column at `(r, 0)`. -/
theorem column_vector_apply {α : Type} (x : S2048x1.Idx → α) (r : Fin 2048) :
    shapeCast S2048 x shapeCasts_S2048x1_S2048 (ix1 r) = x (ix2 r 0) :=
  shapeCast_apply x _ _ _ (by
    rw [Shape.rowMajor_val_two, Shape.rowMajor_val_one]
    show r.val * 1 + 0 = r.val
    omega)

/-- A column repeated over the lanes reads, at `(r, l)`, the column at `(r, 0)`. -/
theorem column_lanes_apply {α : Type} (x : S2048x1.Idx → α) (r : Fin 2048) (l : Fin 128) :
    broadcastTo S2048x128 x broadcasts_S2048x1_S2048x128 (ix2 r l) = x (ix2 r 0) :=
  broadcastTo_apply x _ _ _ fun a => match a with
    | ⟨0, _⟩ => rfl
    | ⟨1, _⟩ => rfl

section Lanes

variable (p : FVec Ideal S2048x6400 .f32) (q : FVec Ideal S2048x128 .f32) (k : FVec Ideal S1x6400 .f32)

/-- A distance of chunk `n`, at row `r` and lane `l`. -/
theorem chunkDist_apply (n : ℕ) (hn : n < 50) (r : Fin 2048) (l : Fin 128) :
    chunkDist p q k n hn (ix2 r l)
      = (q (ix2 r l) + k (ix2 0 ⟨128 * n + l.val, by omega⟩) - p (ix2 r ⟨128 * n + l.val, by omega⟩) : EReal) := by
  have hk : chunkNorms k n hn (ix2 r l) = k (ix2 0 ⟨128 * n + l.val, by omega⟩) := by
    unfold chunkNorms broadcastTo extractStridedSlice
    congr 1
    funext a
    match a with
    | ⟨0, _⟩ => rfl
    | ⟨1, _⟩ => rfl
  have hp : extractStridedSlice S2048x128 ![0, 128 * n] p (slices_products hn) (ix2 r l)
      = p (ix2 r ⟨128 * n + l.val, by omega⟩) := by
    unfold extractStridedSlice
    congr 1
    funext a
    match a with
    | ⟨0, _⟩ => exact Fin.ext (Nat.zero_add _)
    | ⟨1, _⟩ => rfl
  show (q (ix2 r l) + chunkNorms k n hn (ix2 r l) - extractStridedSlice S2048x128 ![0, 128 * n] p (slices_products hn) (ix2 r l) : EReal) = _
  rw [hk, hp]

variable {p q k} {f : ℕ → EReal} {base : ℕ} {r : Fin 2048}

/-- Lane `l` of row `r`: after chunk `n` the running pair is the first minimum over the lane's positions met so far. -/
theorem lane_firstMin (l : Fin 128)
    (hf : ∀ n (hn : n < 50), f (base + 128 * n + l.val) = chunkDist p q k n hn (ix2 r l)) (n : ℕ) (hn : n < 50) :
    ∃ a, a ≤ n ∧ runChunk p q k n hn (ix2 r l) = BitVec.ofNat 32 a
      ∧ IsFirstMin (fun x => ∃ c, c ≤ n ∧ x = base + 128 * c + l.val) f (runMin p q k n hn (ix2 r l))
          (base + 128 * a + l.val) := by
  induction n with
  | zero =>
    refine ⟨0, le_rfl, rfl, ?_⟩
    have h := IsFirstMin.single f (base + 128 * 0 + l.val)
    rw [hf 0 hn] at h
    exact h.congr_set fun x => ⟨fun ⟨c, hc, hx⟩ => by rw [hx, Nat.le_zero.1 hc], fun hx => ⟨0, le_rfl, hx⟩⟩
  | succ n ih =>
    obtain ⟨a, ha, hw, h⟩ := ih (Nat.lt_of_succ_lt hn)
    have hs := IsFirstMin.single f (base + 128 * (n + 1) + l.val)
    rw [hf (n + 1) hn] at hs
    have hset : ∀ x, (∃ c, c ≤ n + 1 ∧ x = base + 128 * c + l.val)
        ↔ ((∃ c, c ≤ n ∧ x = base + 128 * c + l.val) ∨ x = base + 128 * (n + 1) + l.val) := fun x =>
      ⟨fun ⟨c, hc, hx⟩ => (Nat.lt_or_eq_of_le hc).imp (fun h => ⟨c, Nat.le_of_lt_succ h, hx⟩) fun h => by rw [hx, h],
        fun h => h.elim (fun ⟨c, hc, hx⟩ => ⟨c, Nat.le_succ_of_le hc, hx⟩) fun hx => ⟨n + 1, le_rfl, hx⟩⟩
    have hm : runMin p q k (n + 1) hn (ix2 r l)
        = if (chunkDist p q k (n + 1) hn (ix2 r l) : EReal) < runMin p q k n (Nat.lt_of_succ_lt hn) (ix2 r l)
          then chunkDist p q k (n + 1) hn (ix2 r l) else runMin p q k n (Nat.lt_of_succ_lt hn) (ix2 r l) :=
      select_olt _ _ _ _
    have hc : runChunk p q k (n + 1) hn (ix2 r l)
        = if (chunkDist p q k (n + 1) hn (ix2 r l) : EReal) < runMin p q k n (Nat.lt_of_succ_lt hn) (ix2 r l)
          then BitVec.ofNat 32 (n + 1) else runChunk p q k n (Nat.lt_of_succ_lt hn) (ix2 r l) :=
      select_olt _ _ _ _
    by_cases hlt : (chunkDist p q k (n + 1) hn (ix2 r l) : EReal) < runMin p q k n (Nat.lt_of_succ_lt hn) (ix2 r l)
    · rw [hm, hc, if_pos hlt, if_pos hlt]
      exact ⟨n + 1, le_rfl, rfl, (h.take_later hs hlt).congr_set hset⟩
    · rw [hm, hc, if_neg hlt, if_neg hlt]
      refine ⟨a, Nat.le_succ_of_le ha, hw, (h.keep_earlier hs ?_ hlt).congr_set hset⟩
      rintro s t ⟨c, hc', rfl⟩ rfl
      omega

/-- An index of the lanes that drops to row `r` is `r` with a lane. -/
theorem drop_row (i : S2048x128.Idx) (r : Fin 2048) : reduces_S2048x128_S2048.drop i = ix1 r ↔ ∃ l : Fin 128, i = ix2 r l := by
  constructor
  · intro h
    refine ⟨i 1, ?_⟩
    have h0 : (i 0).val = r.val := (reduces_S2048x128_S2048.drop_apply_val_of_eq i 0 0).symm.trans (by rw [h])
    rw [eq_ix2 i]
    congr 1
    exact Fin.ext h0
  · rintro ⟨l, rfl⟩
    funext a
    match a with
    | ⟨0, _⟩ => exact Fin.ext (reduces_S2048x128_S2048.drop_apply_val_of_eq (ix2 r l) 0 0)

/-- The least over the lanes: at most each lane's, and one of them — a lane's value is never above the initial `+∞`. -/
theorem localMin_apply (r : Fin 2048) : (∀ l, (localMin p q k (ix1 r) : EReal) ≤ runMin p q k 49 (by decide) (ix2 r l))
    ∧ ∃ l, localMin p q k (ix1 r) = runMin p q k 49 (by decide) (ix2 r l) := by
  obtain ⟨hmem, hall⟩ := reduceFold_least (R := fun a b : EReal => a ≤ b) (fun _ => le_rfl) (fun _ _ _ => le_trans)
    minimumf_chooses reduces_S2048x128_S2048 (FloatOps.ofBits (F := Ideal) .f32 0x7F800000#32)
    (runMin p q k 49 (by decide)) (ix1 r)
  have hle : ∀ l, (localMin p q k (ix1 r) : EReal) ≤ runMin p q k 49 (by decide) (ix2 r l) :=
    fun l => hall _ ((drop_row _ r).2 ⟨l, rfl⟩)
  refine ⟨hle, ?_⟩
  rcases hmem with h | ⟨i, hi, h⟩
  · refine ⟨0, le_antisymm (hle 0) ?_⟩
    have htop : (FloatOps.ofBits (F := Ideal) .f32 0x7F800000#32 : EReal) = ⊤ := by
      show Ideal.ofBits .f32 0x7F800000#32 = ⊤
      simp [Ideal.ofBits, Ideal.ieee]
    exact (le_top (a := (runMin p q k 49 (by decide) (ix2 r 0) : EReal))).trans_eq (htop.symm.trans h.symm)
  · obtain ⟨l, rfl⟩ := (drop_row i r).1 hi
    exact ⟨l, h⟩

/-- A position as a word: chunk `a`, lane `l`, block `j`. -/
theorem lanePos_apply {a j : ℕ} {l : Fin 128} (hw : runChunk p q k 49 (by decide) (ix2 r l) = BitVec.ofNat 32 a) :
    lanePos p q k (BitVec.ofNat 32 j) (ix2 r l) = BitVec.ofNat 32 (6400 * j + 128 * a + l.val) := by
  show runChunk p q k 49 (by decide) (ix2 r l) * 128#32 + BitVec.ofNat 32 (0 * 128 + l.val) + BitVec.ofNat 32 j * 6400#32 = _
  rw [hw]
  apply BitVec.eq_of_toNat_eq
  simp only [BitVec.toNat_add, BitVec.toNat_mul, BitVec.toNat_ofNat]
  omega

/-- The least position among the lanes that have the block's least distance: it is one of theirs, and at most each. -/
theorem localArg_apply {j : ℕ} (hj : j < 16) (al : Fin 128 → ℕ) (ha : ∀ l, al l < 50)
    (hw : ∀ l, runChunk p q k 49 (by decide) (ix2 r l) = BitVec.ofNat 32 (al l)) :
    ∃ l, localMin p q k (ix1 r) = runMin p q k 49 (by decide) (ix2 r l)
      ∧ localArg p q k (BitVec.ofNat 32 j) (ix1 r) = BitVec.ofNat 32 (6400 * j + 128 * al l + l.val)
      ∧ ∀ l', localMin p q k (ix1 r) = runMin p q k 49 (by decide) (ix2 r l') →
          6400 * j + 128 * al l + l.val ≤ 6400 * j + 128 * al l' + l'.val := by
  obtain ⟨hmem, hall⟩ := reduceFold_least (R := fun a b : BitVec 32 => a.toInt ≤ b.toInt) (fun _ => le_rfl)
    (fun _ _ _ => le_trans) minsi_chooses reduces_S2048x128_S2048 2147483647#32
    (select (cmpf .oeq (runMin p q k 49 (by decide))
        (broadcastTo S2048x128 (shapeCast S2048x1 (localMin p q k) shapeCasts_S2048_S2048x1) broadcasts_S2048x1_S2048x128))
      (lanePos p q k (BitVec.ofNat 32 j)) (broadcast S2048x128 2147483647#32)) (ix1 r)
  have hb : ∀ l, broadcastTo S2048x128 (shapeCast S2048x1 (localMin p q k) shapeCasts_S2048_S2048x1)
      broadcasts_S2048x1_S2048x128 (ix2 r l) = localMin p q k (ix1 r) := by
    intro l
    rw [column_lanes_apply]
    exact shapeCast_a_a1_apply _ _ r 0
  have hx : ∀ l, select (cmpf .oeq (runMin p q k 49 (by decide))
        (broadcastTo S2048x128 (shapeCast S2048x1 (localMin p q k) shapeCasts_S2048_S2048x1) broadcasts_S2048x1_S2048x128))
      (lanePos p q k (BitVec.ofNat 32 j)) (broadcast S2048x128 2147483647#32) (ix2 r l)
      = if (runMin p q k 49 (by decide) (ix2 r l) : EReal) = localMin p q k (ix1 r)
        then BitVec.ofNat 32 (6400 * j + 128 * al l + l.val) else 2147483647#32 := fun l => by
    rw [← lanePos_apply (hw l), ← hb l]
    exact select_oeq _ _ _ _
  change (localArg p q k (BitVec.ofNat 32 j) (ix1 r) = _ ∨ ∃ i, _ ∧ localArg p q k (BitVec.ofNat 32 j) (ix1 r) = _) at hmem
  change ∀ i, _ → (localArg p q k (BitVec.ofNat 32 j) (ix1 r)).toInt ≤ _ at hall
  have hle : ∀ l', localMin p q k (ix1 r) = runMin p q k 49 (by decide) (ix2 r l') →
      (localArg p q k (BitVec.ofNat 32 j) (ix1 r)).toInt ≤ (6400 * j + 128 * al l' + l'.val : ℕ) := fun l' h => by
    have h' := hall (ix2 r l') ((drop_row _ r).2 ⟨l', rfl⟩)
    have := ha l'
    rwa [hx, if_pos h.symm, toInt_ofNat (by omega)] at h'
  obtain ⟨-, l₀, hl₀⟩ := localMin_apply (p := p) (q := q) (k := k) r
  have hsmall := hle l₀ hl₀
  have := ha l₀
  have hbig : (2147483647#32 : BitVec 32).toInt = 2147483647 := by decide
  have hfin : ∃ l, (runMin p q k 49 (by decide) (ix2 r l) : EReal) = localMin p q k (ix1 r)
      ∧ localArg p q k (BitVec.ofNat 32 j) (ix1 r) = BitVec.ofNat 32 (6400 * j + 128 * al l + l.val) := by
    rcases hmem with h | ⟨i, hi, h⟩
    · rw [h, hbig] at hsmall; omega
    · obtain ⟨l, rfl⟩ := (drop_row i r).1 hi
      rw [hx] at h
      by_cases he : (runMin p q k 49 (by decide) (ix2 r l) : EReal) = localMin p q k (ix1 r)
      · rw [if_pos he] at h; exact ⟨l, he, h⟩
      · rw [if_neg he] at h; rw [h, hbig] at hsmall; omega
  obtain ⟨l, he, hv⟩ := hfin
  refine ⟨l, he.symm, hv, fun l' h => ?_⟩
  have h' := hle l' h
  have := ha l
  rw [hv, toInt_ofNat (by omega)] at h'
  exact_mod_cast h'

/-- Row `r` of one block: the stored pair is the first minimum of the row's distances over the block's positions. -/
theorem local_firstMin {j : ℕ} (hj : j < 16)
    (hf : ∀ n (hn : n < 50) (l : Fin 128), f (6400 * j + 128 * n + l.val) = chunkDist p q k n hn (ix2 r l)) :
    ∃ a, localArg p q k (BitVec.ofNat 32 j) (ix1 r) = BitVec.ofNat 32 a
      ∧ IsFirstMin (fun x => 6400 * j ≤ x ∧ x < 6400 * (j + 1)) f (localMin p q k (ix1 r)) a := by
  choose al hal hw hmin using fun l => lane_firstMin (p := p) (q := q) (k := k) (f := f) (base := 6400 * j) (r := r) l
    (fun n hn => hf n hn l) 49 (by decide)
  obtain ⟨l, hl, hv, hfirst⟩ := localArg_apply (p := p) (q := q) (k := k) (r := r) hj al
    (fun l => Nat.lt_succ_of_le (hal l)) hw
  refine ⟨_, hv, (IsFirstMin.iUnion hmin (localMin_apply r).1 ⟨l, hl.symm, rfl⟩ fun l' h => hfirst l' h.symm).congr_set
    fun x => ⟨fun ⟨h1, h2⟩ => ⟨⟨(x - 6400 * j) % 128, Nat.mod_lt _ (by decide)⟩, (x - 6400 * j) / 128, by omega, ?_⟩, ?_⟩⟩
  · show x = 6400 * j + 128 * ((x - 6400 * j) / 128) + (x - 6400 * j) % 128
    omega
  · rintro ⟨l, c, hc, rfl⟩
    have := l.isLt
    omega

end Lanes

/-- Row `r` of one run of the body: its stored pair is the first minimum, over the block's 6400 keys, of the key's
    distance — query norm plus key norm, minus the sum of the products of the coordinates. -/
theorem block_firstMin (x0 : Vec Ideal S2048x64 .f32) (x1 : Vec Ideal S6400x64 .f32) (x2 : Vec Ideal S2048x1 .f32)
    (x3 : Vec Ideal S1x6400 .f32) {f : ℕ → EReal} {j : ℕ} (hj : j < 16) (r : Fin 2048)
    (hf : ∀ n : Fin 6400, f (6400 * j + n.val)
      = (x2 (ix2 r 0) + x3 (ix2 0 n) - ∑ d : Fin 64, (x0 (ix2 r d) * x1 (ix2 n d) : EReal) : EReal)) :
    ∃ a, blockArg (BitVec.ofNat 32 j) x0 x1 x2 x3 (ix1 r) = BitVec.ofNat 32 a
      ∧ IsFirstMin (fun x => 6400 * j ≤ x ∧ x < 6400 * (j + 1)) f (blockMin x0 x1 x2 x3 (ix1 r)) a := by
  refine local_firstMin hj fun n hn l => ?_
  rw [chunkDist_apply, Nat.add_assoc, hf ⟨128 * n + l.val, by omega⟩]
  have h8 : k0_pay8 x2 (ix2 r l) = x2 (ix2 r 0) := by
    unfold k0_pay8
    rw [column_lanes_apply, shapeCast_self, shapeCast_self]
  have h9 : k0_pay9 x3 = x3 := by
    unfold k0_pay9
    exact shapeCast_self _ _
  have h7 : ∀ n, (k0_pay7 x0 x1 (ix2 r n) : EReal) = ∑ d : Fin 64, (x0 (ix2 r d) * x1 (ix2 n d) : EReal) := by
    intro n
    unfold k0_pay7
    rw [shapeCast_self]
    refine (Ideal.matmul_constant_zero_apply _ none x0 x1 (ix2 r n)).trans ?_
    refine Fintype.sum_equiv (contrEquiv1 dot_S2048x64_S6400x64_S2048x6400_1_1_0_0_n_n 64 rfl rfl) _ _ fun d => ?_
    congr 2
    · funext a
      match a with
      | ⟨0, _⟩ => rfl
      | ⟨1, _⟩ => rfl
    · funext a
      match a with
      | ⟨0, _⟩ => rfl
      | ⟨1, _⟩ => rfl
  rw [h8, h9, h7]

end Cert.KernelIdeal.Value

end
-- ==== Proof.Grid.lean ====
/-
  The kernel's run over its grid, in numbers. Point `t = 16 * i + j` of the grid reads the query rows `2048 * i …` and the
  keys `6400 * j …`. After it the two result blocks hold, for each query row, the first minimum of the row's distances over
  the keys below `6400 * (j + 1)` (`outs_firstMin`, by induction on the point). The blocks are written back at the points
  with `j = 15`, so the result arrays end with the first minimum over all 102400 padded keys (`results_firstMin`).
-/
module

public import proofs.«01_k».proof.Proof.Block
public import proofs.«01_k».proof.Proof.Gen.KernelIdeal.Value

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.NearestKey
open Idealize.ShloMosaic.ValueIdx

/-! ## Where the windows' blocks lie -/

/-- The second coordinate of grid point `t` is `t mod 16`. -/
theorem point_lane (t : Fin cfg0.N) : (grid0.coords t 1).val = t.val % 16 := by
  revert t; decide +kernel

/-- The query window's block at point `t` is number `t / 16`. -/
theorem index_queries (t : Fin cfg0.N) : win0_0.index t 0 = t.val / 16 ∧ win0_0.index t 1 = 0 := by
  revert t; decide +kernel

/-- The key window's block at point `t` is number `t mod 16`. -/
theorem index_keys (t : Fin cfg0.N) : win0_1.index t 0 = t.val % 16 ∧ win0_1.index t 1 = 0 := by
  revert t; decide +kernel

/-- The block of the queries' squared norms at point `t` is number `t / 16`. -/
theorem index_queryNorms (t : Fin cfg0.N) : win0_2.index t 0 = t.val / 16 ∧ win0_2.index t 1 = 0 := by
  revert t; decide +kernel

/-- The block of the keys' squared norms at point `t` is number `t mod 16`. -/
theorem index_keyNorms (t : Fin cfg0.N) : win0_3.index t 0 = 0 ∧ win0_3.index t 1 = t.val % 16 := by
  revert t; decide +kernel

/-- The block of the least distances at point `t` is number `t / 16`. -/
theorem index_least (t : Fin cfg0.N) : win0_4.index t 0 = t.val / 16 ∧ win0_4.index t 1 = 0 := by
  revert t; decide +kernel

/-- The block of the nearest keys' numbers at point `t` is number `t / 16`. -/
theorem index_nearest (t : Fin cfg0.N) : win0_5.index t 0 = t.val / 16 ∧ win0_5.index t 1 = 0 := by
  revert t; decide +kernel

/-- The grid has 32 points. -/
theorem point_lt (t : Fin cfg0.N) : t.val < 32 := lt_of_lt_of_eq t.isLt (show cfg0.N = 32 from N_0)

variable (m : (ℓ : Loc nD τ sig) → Buf (Elt Ideal) ℓ) (ρ : Dev nD → PrngReg)

/-! ## The blocks as parts of the arrays -/

/-- The query array as the grid finds it. -/
abbrev queriesIn (c : Dev nD) : Vec Ideal S4096x64 .f32 := V m c main_arg0

/-- The array of doubled padded keys as the grid finds it. -/
abbrev keysIn (c : Dev nD) : Vec Ideal S102400x64 .f32 := V m c main_call0_v8

/-- The column of the queries' squared norms as the grid finds it. -/
abbrev queryNormsIn (c : Dev nD) : Vec Ideal S4096x1 .f32 := V m c main_call0_v3

/-- The row of the padded keys' squared norms as the grid finds it. -/
abbrev keyNormsIn (c : Dev nD) : Vec Ideal S1x102400 .f32 := V m c main_call0_v6

/-- The query block at point `t` holds the rows from `2048 * (t / 16)`. -/
theorem iblk_queries (c : Dev nD) (t : Fin cfg0.N) (r : Fin 2048) (d : Fin 64) :
    (iblk m c 0 t : Vec Ideal S2048x64 .f32) (ix2 r d)
      = queriesIn m c (ix2 ⟨2048 * (t.val / 16) + r.val, by have := point_lt t; omega⟩ d) := by
  have hi := index_queries t
  unfold iblk
  rw [View.read_apply]
  show V m c main_arg0 _ = V m c main_arg0 _
  congr 1
  funext a
  apply Fin.ext
  match a with
  | ⟨0, _⟩ => show win0_0.index t 0 * 2048 + 1 * r.val = 2048 * (t.val / 16) + r.val; rw [hi.1]; omega
  | ⟨1, _⟩ => show win0_0.index t 1 * 64 + 1 * d.val = d.val; rw [hi.2]; omega

/-- The key block at point `t` holds the rows from `6400 * (t mod 16)`. -/
theorem iblk_keys (c : Dev nD) (t : Fin cfg0.N) (n : Fin 6400) (d : Fin 64) :
    (iblk m c 1 t : Vec Ideal S6400x64 .f32) (ix2 n d)
      = keysIn m c (ix2 ⟨6400 * (t.val % 16) + n.val, by omega⟩ d) := by
  have hi := index_keys t
  unfold iblk
  rw [View.read_apply]
  show V m c main_call0_v8 _ = V m c main_call0_v8 _
  congr 1
  funext a
  apply Fin.ext
  match a with
  | ⟨0, _⟩ => show win0_1.index t 0 * 6400 + 1 * n.val = 6400 * (t.val % 16) + n.val; rw [hi.1]; omega
  | ⟨1, _⟩ => show win0_1.index t 1 * 64 + 1 * d.val = d.val; rw [hi.2]; omega

/-- The block of the queries' squared norms at point `t` holds the rows from `2048 * (t / 16)`. -/
theorem iblk_queryNorms (c : Dev nD) (t : Fin cfg0.N) (r : Fin 2048) :
    (iblk m c 2 t : Vec Ideal S2048x1 .f32) (ix2 r 0)
      = queryNormsIn m c (ix2 ⟨2048 * (t.val / 16) + r.val, by have := point_lt t; omega⟩ 0) := by
  have hi := index_queryNorms t
  unfold iblk
  rw [View.read_apply]
  show V m c main_call0_v3 _ = V m c main_call0_v3 _
  congr 1
  funext a
  apply Fin.ext
  match a with
  | ⟨0, _⟩ => show win0_2.index t 0 * 2048 + 1 * r.val = 2048 * (t.val / 16) + r.val; rw [hi.1]; omega
  | ⟨1, _⟩ => show win0_2.index t 1 * 1 + 1 * 0 = 0; rw [hi.2]

/-- The block of the keys' squared norms at point `t` holds the columns from `6400 * (t mod 16)`. -/
theorem iblk_keyNorms (c : Dev nD) (t : Fin cfg0.N) (n : Fin 6400) :
    (iblk m c 3 t : Vec Ideal S1x6400 .f32) (ix2 0 n)
      = keyNormsIn m c (ix2 0 ⟨6400 * (t.val % 16) + n.val, by omega⟩) := by
  have hi := index_keyNorms t
  unfold iblk
  rw [View.read_apply]
  show V m c main_call0_v6 _ = V m c main_call0_v6 _
  congr 1
  funext a
  apply Fin.ext
  match a with
  | ⟨0, _⟩ => show win0_3.index t 0 * 1 + 1 * 0 = 0; rw [hi.1]
  | ⟨1, _⟩ => show win0_3.index t 1 * 6400 + 1 * n.val = 6400 * (t.val % 16) + n.val; rw [hi.2]; omega

/-! ## The distances, and the induction over the points -/

/-- The kernel's distance of query `R` to padded key `n` (0 past the padded keys, where nothing reads it): the squared norms'
    sum less the sum of the products with the doubled key. -/
def kernelDist (c : Dev nD) (R : Fin 4096) (n : ℕ) : EReal :=
  if h : n < 102400 then
    (queryNormsIn m c (ix2 R 0) + keyNormsIn m c (ix2 0 ⟨n, h⟩)
      - ∑ d : Fin 64, (queriesIn m c (ix2 R d) * keysIn m c (ix2 ⟨n, h⟩ d) : EReal) : EReal)
  else 0

/-- One point's block values: the first minimum over the point's own 6400 keys. -/
theorem point_firstMin (c : Dev nD) (t : Fin cfg0.N) (r : Fin 2048) :
    ∃ a, blockArg (gridWord (grid0.coords t)) (iblk m c 0 t) (iblk m c 1 t) (iblk m c 2 t) (iblk m c 3 t) (ix1 r) = BitVec.ofNat 32 a
      ∧ IsFirstMin (fun x => 6400 * (t.val % 16) ≤ x ∧ x < 6400 * (t.val % 16 + 1))
          (kernelDist m c ⟨2048 * (t.val / 16) + r.val, by have := point_lt t; omega⟩)
          (blockMin (iblk m c 0 t) (iblk m c 1 t) (iblk m c 2 t) (iblk m c 3 t) (ix1 r)) a := by
  unfold gridWord
  rw [point_lane t]
  refine block_firstMin _ _ _ _ (Nat.mod_lt _ (by decide)) r fun n => ?_
  unfold kernelDist
  rw [dif_pos (show 6400 * (t.val % 16) + n.val < 102400 by omega), iblk_queryNorms, iblk_keyNorms]
  simp only [iblk_queries, iblk_keys]

/-- The two block values after point `t`, at one row: the least distance and its key's number. -/
abbrev RowDone (c : Dev nD) (t : ℕ) (ht : t < cfg0.N) (r : Fin 2048) : Prop :=
  ∃ a, (outsAt0 m c t ht).2 (ix2 r 0) = BitVec.ofNat 32 a
    ∧ IsFirstMin (· < 6400 * (t % 16 + 1))
        (kernelDist m c ⟨2048 * (t / 16) + r.val, by have := point_lt ⟨t, ht⟩; dsimp only at this; omega⟩)
        ((outsAt0 m c t ht).1 (ix2 r 0)) a

/-- A vector cast to a column reads, at `(r, 0)`, the vector at `r`. -/
theorem vector_column_apply {α : Type} (x : S2048.Idx → α) (r : Fin 2048) :
    shapeCast S2048x1 x shapeCasts_S2048_S2048x1 (ix2 r 0) = x (ix1 r) :=
  shapeCast_apply x _ _ _ (by
    rw [Shape.rowMajor_val_two, Shape.rowMajor_val_one]
    show r.val = r.val * 1 + 0
    omega)

/-- At the first key block of a query block the results are started: they are the block's own. -/
theorem row_start (c : Dev nD) (t : Fin cfg0.N) (h0 : t.val % 16 = 0) (r : Fin 2048) :
    RowDone m c t.val t.isLt r := by
  obtain ⟨a, ha, hmin⟩ := point_firstMin m c t r
  have h1 : ¬1 ≤ t.val % 16 := by omega
  refine ⟨a, ?_, ?_⟩
  · rw [outsAt0_A m c t h0 h1]; dsimp only; rw [out_A5, vector_column_apply, ha]
  · rw [outsAt0_A m c t h0 h1]; dsimp only; rw [out_A4, vector_column_apply]
    exact hmin.congr_set fun n => by rw [h0]; omega

/-- What a later key block leaves in the least distances, at one row. -/
theorem pay5_apply (v : FVec Ideal S2048 .f32) (o : Vec Ideal S2048x1 .f32) (r : Fin 2048) :
    k0_pay5 v o (ix2 r 0) = if (v (ix1 r) : EReal) < o (ix2 r 0) then v (ix1 r) else o (ix2 r 0) := by
  unfold k0_pay5 k0_pay4 k0_pay3
  dsimp only
  rw [vector_column_apply, ← column_vector_apply o r]
  exact select_olt _ _ _ _

/-- What a later key block leaves in the nearest keys' numbers, at one row. -/
theorem pay6_apply (v : FVec Ideal S2048 .f32) (k : IVec S2048 32) (o : Vec Ideal S2048x1 .f32) (q : Vec Ideal S2048x1 .i32)
    (r : Fin 2048) :
    k0_pay6 v k o q (ix2 r 0) = if (v (ix1 r) : EReal) < o (ix2 r 0) then k (ix1 r) else q (ix2 r 0) := by
  unfold k0_pay6 k0_pay4 k0_pay3
  dsimp only
  rw [vector_column_apply, ← column_vector_apply o r, ← column_vector_apply q r]
  exact select_olt _ _ _ _

/-- At a later key block the results are carried on: the block's own where its least distance is strictly smaller. -/
theorem row_step (c : Dev nD) (t : Fin cfg0.N) (h0 : ¬t.val % 16 = 0) (r : Fin 2048)
    (ih : RowDone m c (t.val - 1) (Nat.lt_of_le_of_lt (Nat.sub_le _ _) t.isLt) r) : RowDone m c t.val t.isLt r := by
  obtain ⟨a, ha, hmin⟩ := point_firstMin m c t r
  obtain ⟨b, hb, hprev⟩ := ih
  have h1 : 1 ≤ t.val % 16 := by omega
  have hrow : (⟨2048 * ((t.val - 1) / 16) + r.val, by have := point_lt t; omega⟩ : Fin 4096)
      = ⟨2048 * (t.val / 16) + r.val, by have := point_lt t; omega⟩ := Fin.ext (by dsimp only; omega)
  rw [hrow] at hprev
  unfold RowDone
  rw [outsAt0_B m c t h0 h1]
  dsimp only
  rw [out_B4, out_B5, pay5_apply, pay6_apply]
  split
  · next hlt => exact ⟨a, ha, (hprev.take_later hmin hlt).congr_set fun n => by omega⟩
  · next hlt =>
    exact ⟨b, hb, (hprev.keep_earlier hmin (fun s u hs hu => by omega) hlt).congr_set fun n => by omega⟩

/-- After every point the two blocks hold, at each row, the first minimum over the keys read so far for the row's block. -/
theorem outs_firstMin (c : Dev nD) : ∀ (t : ℕ) (ht : t < cfg0.N) (r : Fin 2048), RowDone m c t ht r
  | 0, ht, r => row_start m c ⟨0, ht⟩ rfl r
  | t + 1, ht, r => by
    by_cases h0 : (t + 1) % 16 = 0
    · exact row_start m c ⟨t + 1, ht⟩ h0 r
    · exact row_step m c ⟨t + 1, ht⟩ h0 r (outs_firstMin c t (Nat.lt_of_succ_lt ht) r)

/-! ## The result arrays -/

/-- The grid point that writes query row `R` back. -/
abbrev lastPoint (R : ℕ) : ℕ := 16 * (R / 2048) + 15

/-- It is a point of the grid. -/
theorem lastPoint_lt (R : Fin 4096) : lastPoint R.val < cfg0.N := by
  rw [show cfg0.N = 32 from N_0]; show 16 * (R.val / 2048) + 15 < 32; omega

/-- The array of the least distances, as the write-backs leave it. -/
def leastOut (c : Dev nD) : Vec Ideal S4096x1 .f32 := fun i =>
  (outsAt0 m c (lastPoint (i 0).val) (lastPoint_lt (i 0))).1 (ix2 ⟨(i 0).val % 2048, Nat.mod_lt _ (by decide)⟩ 0)

/-- The array of the nearest keys' numbers, as the write-backs leave it. -/
def nearestOut (c : Dev nD) : Vec Ideal S4096x1 .i32 := fun i =>
  (outsAt0 m c (lastPoint (i 0).val) (lastPoint_lt (i 0))).2 (ix2 ⟨(i 0).val % 2048, Nat.mod_lt _ (by decide)⟩ 0)

/-- A row of the block written back at `t` is written back at `t`. -/
theorem lastPoint_row (t : Fin cfg0.N) (hf : t.val % 16 = 15) (R : Fin 4096) (r : Fin 2048)
    (hR : R.val = 2048 * (t.val / 16) + r.val) :
    lastPoint R.val = t.val ∧ (⟨R.val % 2048, Nat.mod_lt _ (by decide)⟩ : Fin 2048) = r := by
  have h1 : R.val / 2048 = t.val / 16 := by omega
  have h2 : R.val % 2048 = r.val := by omega
  exact ⟨by show 16 * (R.val / 2048) + 15 = t.val; omega, Fin.ext h2⟩

/-- Two results of one point, at one row, are equal when the points and the rows are. -/
theorem outs_congr {c : Dev nD} {t t' : ℕ} {ht : t < cfg0.N} {ht' : t' < cfg0.N} {j j' : S2048x1.Idx} (h : t = t') (hj : j = j') :
    (outsAt0 m c t ht).1 j = (outsAt0 m c t' ht').1 j' ∧ (outsAt0 m c t ht).2 j = (outsAt0 m c t' ht').2 j' := by
  subst h hj; exact ⟨rfl, rfl⟩

/-- An index of a one-column block is its row at column 0. -/
theorem column_idx {n : ℕ} (j : ((⟨2, ![n, 1]⟩ : Shape)).Idx) : j = ix2 (j 0) 0 := by
  funext a
  match a with
  | ⟨0, _⟩ => rfl
  | ⟨1, h⟩ => exact Fin.ext (by have : (j ⟨1, h⟩).val < 1 := (j ⟨1, h⟩).isLt; show (j ⟨1, h⟩).val = 0; omega)

/-- What a write-back of the least distances writes is its block of the final array. -/
theorem flushed_least (c : Dev nD) (t : Fin cfg0.N) (hf : (cfg0.win 4).flush t = true) :
    (dats m 0 c).flushed 4 t = ((cfg0.win 4).blk t).view.read (Elt Ideal) (leastOut m c) := by
  have hi := index_least t
  rw [flushed4]
  funext (j : S2048x1.Idx)
  rw [View.read_apply]
  have hR : (((win0_4.rect t).emb j 0 : Fin 4096) : ℕ) = 2048 * (t.val / 16) + (j 0).val := by
    show win0_4.index t 0 * 2048 + 1 * (j 0).val = _
    rw [hi.1]; omega
  obtain ⟨hp, hr⟩ := lastPoint_row t ((flush0_4 t).1 hf) _ _ hR
  show (outsAt0 m c t.val t.isLt).1 j = leastOut m c ((win0_4.rect t).emb j)
  exact (outs_congr m hp.symm ((column_idx j).trans (congrArg (fun x : Fin 2048 => ix2 x 0) hr.symm))).1

/-- What a write-back of the nearest keys' numbers writes is its block of the final array. -/
theorem flushed_nearest (c : Dev nD) (t : Fin cfg0.N) (hf : (cfg0.win 5).flush t = true) :
    (dats m 0 c).flushed 5 t = ((cfg0.win 5).blk t).view.read (Elt Ideal) (nearestOut m c) := by
  have hi := index_nearest t
  rw [flushed5]
  funext (j : S2048x1.Idx)
  rw [View.read_apply]
  have hR : (((win0_5.rect t).emb j 0 : Fin 4096) : ℕ) = 2048 * (t.val / 16) + (j 0).val := by
    show win0_5.index t 0 * 2048 + 1 * (j 0).val = _
    rw [hi.1]; omega
  obtain ⟨hp, hr⟩ := lastPoint_row t ((flush0_5 t).1 hf) _ _ hR
  show (outsAt0 m c t.val t.isLt).2 j = nearestOut m c ((win0_5.rect t).emb j)
  exact (outs_congr m hp.symm ((column_idx j).trans (congrArg (fun x : Fin 2048 => ix2 x 0) hr.symm))).2

/-- Rows `2048 * b …` of a one-column array of 4096 rows, as a condition on the two coordinates. -/
theorem row_bounds (i : S4096x1.Idx) :
    2048 * ((i 0).val / 2048) ≤ (i 0).val ∧ (i 0).val < 2048 * ((i 0).val / 2048) + 2048 ∧ (i 1).val = 0 := by
  have h1 : (i 1).val < 1 := (i 1).isLt
  omega

/-- The array of the least distances after the run. -/
theorem least_array (c : Dev nD) : (dats m 0 c).arrAt 4 cfg0.N = leastOut m c :=
  (dats m 0 c).arrAt_eq_of_cover 4 (leastOut m c) (flushed_least m c) fun (i : S4096x1.Idx) => by
    have hlt : (i 0).val < 4096 := (i 0).isLt
    let t : Fin cfg0.N := ⟨lastPoint (i 0).val, lastPoint_lt (i 0)⟩
    have ht : t.val / 16 = (i 0).val / 2048 := by show (16 * ((i 0).val / 2048) + 15) / 16 = _; omega
    have hi := index_least t
    have hb := row_bounds i
    refine ⟨t, (flush0_4 t).2 (by show (16 * ((i 0).val / 2048) + 15) % 16 = 15; omega), ?_⟩
    show i ∈ ((View.whole main_v0_0).slice (win0_4.rect t)).set
    rw [View.set_slice_whole, Rect.mem_set_unit]
    intro a
    match a with
    | ⟨0, _⟩ =>
      show win0_4.index t 0 * 2048 ≤ (i 0).val ∧ (i 0).val < win0_4.index t 0 * 2048 + 2048
      rw [hi.1, ht]; omega
    | ⟨1, _⟩ =>
      show win0_4.index t 1 * 1 ≤ (i 1).val ∧ (i 1).val < win0_4.index t 1 * 1 + 1
      rw [hi.2]; omega

/-- The array of the nearest keys' numbers after the run. -/
theorem nearest_array (c : Dev nD) : (dats m 0 c).arrAt 5 cfg0.N = nearestOut m c :=
  (dats m 0 c).arrAt_eq_of_cover 5 (nearestOut m c) (flushed_nearest m c) fun (i : S4096x1.Idx) => by
    have hlt : (i 0).val < 4096 := (i 0).isLt
    let t : Fin cfg0.N := ⟨lastPoint (i 0).val, lastPoint_lt (i 0)⟩
    have ht : t.val / 16 = (i 0).val / 2048 := by show (16 * ((i 0).val / 2048) + 15) / 16 = _; omega
    have hi := index_nearest t
    have hb := row_bounds i
    refine ⟨t, (flush0_5 t).2 (by show (16 * ((i 0).val / 2048) + 15) % 16 = 15; omega), ?_⟩
    show i ∈ ((View.whole main_v0_1).slice (win0_5.rect t)).set
    rw [View.set_slice_whole, Rect.mem_set_unit]
    intro a
    match a with
    | ⟨0, _⟩ =>
      show win0_5.index t 0 * 2048 ≤ (i 0).val ∧ (i 0).val < win0_5.index t 0 * 2048 + 2048
      rw [hi.1, ht]; omega
    | ⟨1, _⟩ =>
      show win0_5.index t 1 * 1 ≤ (i 1).val ∧ (i 1).val < win0_5.index t 1 * 1 + 1
      rw [hi.2]; omega

/-- The two result arrays hold, for every query, the first minimum of its distances over the padded keys. -/
theorem results_firstMin (c : Dev nD) (R : Fin 4096) :
    ∃ a, nearestOut m c (ix2 R 0) = BitVec.ofNat 32 a
      ∧ IsFirstMin (· < 102400) (kernelDist m c R) (leastOut m c (ix2 R 0)) a := by
  obtain ⟨a, ha, hmin⟩ := outs_firstMin m c (lastPoint R.val) (lastPoint_lt R) ⟨R.val % 2048, Nat.mod_lt _ (by decide)⟩
  have h15 : (16 * (R.val / 2048) + 15) % 16 = 15 := by omega
  have hrow : (⟨2048 * (lastPoint R.val / 16) + R.val % 2048, by show 2048 * ((16 * (R.val / 2048) + 15) / 16) + _ < _; omega⟩ : Fin 4096) = R :=
    Fin.ext (by show 2048 * ((16 * (R.val / 2048) + 15) / 16) + R.val % 2048 = R.val; omega)
  refine ⟨a, ha, ?_⟩
  rw [hrow] at hmin
  exact hmin.congr_set fun n => by show n < 102400 ↔ n < 6400 * ((16 * (R.val / 2048) + 15) % 16 + 1); rw [h15]

/-- The run: both result arrays by name, the arguments as they were. -/
theorem run : θ_run defs (onTc (τ := τ) (main (F := Ideal))) ⟨m, fun _ => 0, ρ⟩ fun r => ∀ c : Dev nD,
      r.2.mem ((c : Thread nD τ).loc main_v0_0) = leastOut m c
      ∧ r.2.mem ((c : Thread nD τ).loc main_v0_1) = nearestOut m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (least_array m c), (h c).2.1.trans (nearest_array m c), (h c).2.2⟩)
    (run_blocks m ρ)

end Cert.KernelIdeal.Value

end
-- ==== Proof.RowNorm.lean ====
/-
  The sum of a row's squares, and the number `+∞`: what both programs' opening operations and reductions read.
-/
module

public import Idealize.ShloMosaic.Lib.ValueIdx
public import Idealize.ShloMosaic.Lib.IdealHost
public import Idealize.ShloMosaic.Lib.Pipeline.Value

@[expose] public section

noncomputable section

open Idealize.ShloMosaic Idealize.ShloMosaic.ValueIdx

namespace Cert.NearestKey

/-- The word of `+∞` denotes the largest number. -/
theorem ofBits_inf : Ideal.ofBits .f32 0x7F800000#32 = ⊤ := by simp [Ideal.ofBits, Ideal.ieee]

/-- Multiplying a matrix of 64 columns with itself and summing each row gives the sum of the row's squares. -/
theorem rowNorm_apply {n : ℕ} (x : FVec Ideal (⟨2, ![n, 64]⟩ : Shape) .f32)
    (h : (⟨2, ![n, 64]⟩ : Shape).ReducesTo [1] (⟨1, ![n]⟩ : Shape)) (hr : (⟨2, ![n, 64]⟩ : Shape).Reduces [1] (⟨1, ![n]⟩ : Shape))
    (hu : 0 < (⟨0, ![]⟩ : Shape).numel) (i : Fin n) :
    (Host.reduceAdd (mulf x x) (constant (⟨0, ![]⟩ : Shape) .f32 0x00000000#32) h hu (ix1 i) : EReal)
      = ∑ d : Fin 64, (x (ix2 i d) * x (ix2 i d) : EReal) := by
  rw [hostReduceAdd_apply, Ideal.hostReduceAdd_single _ hr]
  have h0 : (constant (F := Ideal) (⟨0, ![]⟩ : Shape) .f32 0x00000000#32 (Shape.Idx.first hu) : EReal) = 0 := Ideal.ofBits_zero_f32
  rw [h0, zero_add]
  refine Finset.sum_congr rfl fun d _ => ?_
  have hl : hr.lift (ix1 i) d = ix2 i d := by
    funext a
    match a with
    | ⟨0, _⟩ => exact Fin.ext rfl
    | ⟨1, _⟩ => exact Fin.ext rfl
  rw [hl]
  rfl

end Cert.NearestKey

end
-- ==== Proof.KernelInput.lean ====
/-
  What the kernel's opening operations hand to the grid: the queries' norms, the padded keys doubled, and the padded keys'
  norms, at an index.
-/
module

public import proofs.«01_k».proof.Proof.Grid
public import proofs.«01_k».proof.Proof.RowNorm
public import Idealize.ShloMosaic.Lib.Claim
public import Idealize.ShloMosaic.Lib.KernelVsHost

@[expose] public section

noncomputable section

open Idealize.ShloMosaic Idealize.ShloMosaic.TcCoe Idealize.SL.Sem

namespace Cert.KernelIdeal.Value

open Cert.KernelIdeal Cert.KernelIdeal.Gen Cert.NearestKey
open Idealize.ShloMosaic.ValueIdx

variable (m : (ℓ : Loc nD τ sig) → Buf (Elt Ideal) ℓ)

/-- The queries as the caller gave them. -/
abbrev queryArg (c : Dev nD) : FVec Ideal S4096x64 .f32 := m ((c : Thread nD τ).loc main_arg0)

/-- The keys as the caller gave them. -/
abbrev keyArg (c : Dev nD) : FVec Ideal S100000x64 .f32 := m ((c : Thread nD τ).loc main_arg1)

/-- The keys with 2400 rows of `10000.0` below them. -/
abbrev paddedKeys (c : Dev nD) : FVec Ideal S102400x64 .f32 :=
  pad S102400x64 ![0, 0] ![2400, 0] ![0, 0] (keyArg m c) (constant S_ .f32 0x461C4000#32) pads_S100000x64_S102400x64_024000_000 h_S_

/-- A row below 100000 is the key of that number. -/
theorem paddedKeys_key (c : Dev nD) {n : ℕ} (h : n < 100000) (d : Fin 64) :
    paddedKeys m c (ix2 ⟨n, by omega⟩ d) = keyArg m c (ix2 ⟨n, h⟩ d) := by
  refine pad_apply_of_inside (s := S100000x64) ![0, 0] ![2400, 0] ![0, 0] _ _ _ _ _ _ fun a => ?_
  match a with
  | ⟨0, _⟩ => show n = 0 + n * (0 + 1); omega
  | ⟨1, _⟩ => show d.val = 0 + d.val * (0 + 1); omega

/-- A row from 100000 on is the padding. -/
theorem paddedKeys_padding (c : Dev nD) {n : ℕ} (h : 100000 ≤ n) (h' : n < 102400) (d : Fin 64) :
    (paddedKeys m c (ix2 ⟨n, h'⟩ d) : EReal) = Ideal.ofBits .f32 0x461C4000#32 := by
  refine pad_apply_of_not_inside (s := S100000x64) ![0, 0] ![2400, 0] ![0, 0] _ _ _ _ _ 0 fun hin => ?_
  have h1 : (n - 0) / (0 + 1) < 100000 := hin.2.2
  omega

/-- The queries' norms. -/
theorem queryNormsIn_apply (c : Dev nD) (R : Fin 4096) :
    (queryNormsIn m c (ix2 R 0) : EReal) = ∑ d : Fin 64, (queryArg m c (ix2 R d) * queryArg m c (ix2 R d) : EReal) := by
  have h : V m c main_call0_v3 = broadcastInDim S4096x1 ![0] bcast_S4096_S4096x1_0
      (Host.reduceAdd (mulf (queryArg m c) (queryArg m c)) (constant S_ .f32 0x00000000#32) reducesTo_S4096x64_S4096_d1 h_S_) := by
    entry_read
    rfl
  rw [queryNormsIn, h, broadcastInDim_apply ![0] bcast_S4096_S4096x1_0 _ (ix2 R 0) (ix1 R),
    rowNorm_apply (queryArg m c) reducesTo_S4096x64_S4096_d1 (by decide) h_S_ R]
  intro a
  match a with
  | ⟨0, _⟩ => rfl

/-- The padded keys, doubled. -/
theorem keysIn_apply (c : Dev nD) (n : Fin 102400) (d : Fin 64) :
    (keysIn m c (ix2 n d) : EReal) = paddedKeys m c (ix2 n d) * Ideal.ofBits .f32 0x40000000#32 := by
  have h : V m c main_call0_v8 = mulf (paddedKeys m c) (broadcastInDim S102400x64 ![] bcast_S_S102400x64 (constant S_ .f32 0x40000000#32)) := by
    entry_read
    rfl
  rw [keysIn, h, mulf_apply, broadcastInDim_scalar_apply]
  rfl

/-- The padded keys' norms. -/
theorem keyNormsIn_apply (c : Dev nD) (n : Fin 102400) :
    (keyNormsIn m c (ix2 0 n) : EReal) = ∑ d : Fin 64, (paddedKeys m c (ix2 n d) * paddedKeys m c (ix2 n d) : EReal) := by
  have h : V m c main_call0_v6 = broadcastInDim S1x102400 ![1] bcast_S102400_S1x102400_1
      (Host.reduceAdd (mulf (paddedKeys m c) (paddedKeys m c)) (constant S_ .f32 0x00000000#32) reducesTo_S102400x64_S102400_d1 h_S_) := by
    entry_read
    rfl
  rw [keyNormsIn, h, broadcastInDim_apply ![1] bcast_S102400_S1x102400_1 _ (ix2 0 n) (ix1 n),
    rowNorm_apply (paddedKeys m c) reducesTo_S102400x64_S102400_d1 (by decide) h_S_ n]
  intro a
  match a with
  | ⟨0, _⟩ => rfl

end Cert.KernelIdeal.Value

end
-- ==== Proof.Numbers.lean ====
/-
  The real numbers behind the two distance formulas. For finite rows both formulas are the sum of the squared differences
  (`doubled_keys_form`, `doubled_product_form`), and a coordinate of the padding is further from a moderate query than any
  moderate key's coordinate (`padding_far`).
-/
module

public import proofs.«01_k».proof.Proof.RowNorm

@[expose] public section

noncomputable section

open Idealize.ShloMosaic

namespace Cert.NearestKey

/-- The word of `2.0`. -/
theorem ofBits_two : Ideal.ofBits .f32 0x40000000#32 = ((2 : ℝ) : EReal) := by
  simp [Ideal.ofBits, Ideal.ieee]
  rw [← EReal.coe_mul]
  norm_num

/-- The word of the padding, `10000.0`. -/
theorem ofBits_padding : Ideal.ofBits .f32 0x461C4000#32 = ((10000 : ℝ) : EReal) := by
  simp [Ideal.ofBits, Ideal.ieee]
  rw [← EReal.coe_mul]
  norm_num

/-- The word of the bound on the arguments, `3333.0`. -/
theorem ofBits_bound : Ideal.ofBits .f32 0x45505000#32 = ((3333 : ℝ) : EReal) := by
  simp [Ideal.ofBits, Ideal.ieee]
  rw [← EReal.coe_mul]
  norm_num

/-- The squared distance of two rows of reals. -/
def sqDist (a b : Fin 64 → ℝ) : ℝ := ∑ d, (a d - b d) * (a d - b d)

/-- A finite sum of reals, read as extended reals. -/
theorem coe_sum (f : Fin 64 → ℝ) : (∑ d, (f d : EReal)) = ((∑ d, f d : ℝ) : EReal) := by
  induction (Finset.univ : Finset (Fin 64)) using Finset.induction_on with
  | empty => simp
  | insert d s hd ih => rw [Finset.sum_insert hd, Finset.sum_insert hd, ih, EReal.coe_add]

/-- The distance with each key coordinate doubled inside the product. -/
theorem doubled_keys_form (a b : Fin 64 → ℝ) :
    (∑ d, ((a d : EReal) * a d)) + (∑ d, ((b d : EReal) * b d)) - (∑ d, ((a d : EReal) * ((b d : EReal) * ((2 : ℝ) : EReal))))
      = ((sqDist a b : ℝ) : EReal) := by
  simp only [← EReal.coe_mul]
  rw [coe_sum, coe_sum, coe_sum, ← EReal.coe_add, ← EReal.coe_sub, ← Finset.sum_add_distrib, ← Finset.sum_sub_distrib]
  exact congrArg _ (Finset.sum_congr rfl fun d _ => by ring)

/-- The distance with the product doubled. -/
theorem doubled_product_form (a b : Fin 64 → ℝ) :
    (∑ d, ((a d : EReal) * a d)) + (∑ d, ((b d : EReal) * b d)) - ((2 : ℝ) : EReal) * (∑ d, ((a d : EReal) * b d))
      = ((sqDist a b : ℝ) : EReal) := by
  simp only [← EReal.coe_mul]
  rw [coe_sum, coe_sum, coe_sum, ← EReal.coe_mul, ← EReal.coe_add, ← EReal.coe_sub, Finset.mul_sum, ← Finset.sum_add_distrib,
    ← Finset.sum_sub_distrib]
  exact congrArg _ (Finset.sum_congr rfl fun d _ => by ring)

/-- A number whose size is at most `3333` is a real. -/
theorem real_of_bounded {x : EReal} (h : max x (-x) ≤ ((3333 : ℝ) : EReal)) : ∃ r : ℝ, x = r ∧ |r| ≤ 3333 := by
  obtain ⟨h1, h2⟩ := max_le_iff.1 h
  induction x with
  | bot => exact absurd h2 (by simp)
  | top => exact absurd h1 (by simp)
  | coe r =>
    refine ⟨r, rfl, abs_le'.2 ⟨EReal.coe_le_coe_iff.1 h1, ?_⟩⟩
    rw [← EReal.coe_neg] at h2
    exact EReal.coe_le_coe_iff.1 h2

/-- A moderate query is at least as far from the padding as from any moderate key. -/
theorem padding_far {a b : Fin 64 → ℝ} (ha : ∀ d, |a d| ≤ 3333) (hb : ∀ d, |b d| ≤ 3333) :
    sqDist a b ≤ sqDist a fun _ => 10000 := by
  refine Finset.sum_le_sum fun d _ => ?_
  have h1 := abs_le.1 (ha d)
  have h2 := abs_le.1 (hb d)
  nlinarith

end Cert.NearestKey

end
-- ==== Proof.RefRun.lean ====
/-
  The reference's run. @main is a straight line of host operations, the function it calls standing in its call's place; so
  after it every buffer holds what the operations before it compute (`run`). The two results are named here by the plain
  formulas they are (`refDist`, `refLeast`, `refNearest`), whose meaning in numbers is RefValue.lean's.
-/
module

public import proofs.«01_k».proof.Defs
public import proofs.«01_k».proof.Proof.Gen.ReferenceIdeal
public import Idealize.ShloMosaic.Lib.StableHlo.Run
public import Idealize.ShloMosaic.Lib.StableHlo.RunHlo
public import Idealize.ShloMosaic.Lib.Tactic
public import Idealize.ShloMosaic.Lib.Quiescent

@[expose] public section

noncomputable section

open Idealize.ShloMosaic Idealize.ShloMosaic.TcCoe Idealize.SL.Sem

namespace Cert.ReferenceIdeal.Value

open Cert.ReferenceIdeal Cert.ReferenceIdeal.Gen Idealize.ShloMosaic.StableHlo

variable {F : FTy → Type} [FloatOps F]

/-- @main's operations in order, those of the called function in its call's place. -/
abbrev ops : List (HloOp τ sig (Elt F)) :=
  [ binary main_arg0 main_arg0 main_v0 (mulf : (⟨S4096x64, .f32⟩ : BufTy).Contents (Elt F) → (⟨S4096x64, .f32⟩ : BufTy).Contents (Elt F) → (⟨S4096x64, .f32⟩ : BufTy).Contents (Elt F)),
    nullary main_cst (constant S_ .f32 0x00000000#32),
    binary main_v0 main_cst main_v1 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    binary main_arg1 main_arg1 main_v3 (mulf : (⟨S100000x64, .f32⟩ : BufTy).Contents (Elt F) → (⟨S100000x64, .f32⟩ : BufTy).Contents (Elt F) → (⟨S100000x64, .f32⟩ : BufTy).Contents (Elt F)),
    nullary main_cst_0 (constant S_ .f32 0x00000000#32),
    binary main_v3 main_cst_0 main_v4 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v4 main_v5 (broadcastInDim S1x100000 ![1] bcast_S100000_S1x100000_1 : (⟨S100000, .f32⟩ : BufTy).Contents (Elt F) → (⟨S1x100000, .f32⟩ : BufTy).Contents (Elt F)),
    unary main_arg1 main_v6 ((transpose S64x100000 [1, 0] · transposes_S100000x64_S64x100000_1_0) : (⟨S100000x64, .f32⟩ : BufTy).Contents (Elt F) → (⟨S64x100000, .f32⟩ : BufTy).Contents (Elt F)),
    binary main_arg0 main_v6 main_v7 ((fun l r => Host.dotGeneral dot_S4096x64_S64x100000_S4096x100000_1_0_0_1_n_n none l r) : (⟨S4096x64, .f32⟩ : BufTy).Contents (Elt F) → (⟨S64x100000, .f32⟩ : BufTy).Contents (Elt F) → (⟨S4096x100000, .f32⟩ : BufTy).Contents (Elt F)),
    unary main_v2 main_v8 (broadcastInDim S4096x100000 ![0, 1] bcast_S4096x1_S4096x100000_0_1 : (⟨S4096x1, .f32⟩ : BufTy).Contents (Elt F) → (⟨S4096x100000, .f32⟩ : BufTy).Contents (Elt F)),
    unary main_v5 main_v9 (broadcastInDim S4096x100000 ![0, 1] bcast_S1x100000_S4096x100000_0_1 : (⟨S1x100000, .f32⟩ : BufTy).Contents (Elt F) → (⟨S4096x100000, .f32⟩ : BufTy).Contents (Elt F)),
    binary main_v8 main_v9 main_v10 (addf : (⟨S4096x100000, .f32⟩ : BufTy).Contents (Elt F) → (⟨S4096x100000, .f32⟩ : BufTy).Contents (Elt F) → (⟨S4096x100000, .f32⟩ : BufTy).Contents (Elt F)),
    nullary main_cst_1 (constant S_ .f32 0x40000000#32),
    unary main_cst_1 main_v11 (broadcastInDim S4096x100000 ![] bcast_S_S4096x100000 : (⟨S_, .f32⟩ : BufTy).Contents (Elt F) → (⟨S4096x100000, .f32⟩ : BufTy).Contents (Elt F)),
    binary main_v11 main_v7 main_v12 (mulf : (⟨S4096x100000, .f32⟩ : BufTy).Contents (Elt F) → (⟨S4096x100000, .f32⟩ : BufTy).Contents (Elt F) → (⟨S4096x100000, .f32⟩ : BufTy).Contents (Elt F)),
    binary main_v10 main_v12 main_v13 (subf : (⟨S4096x100000, .f32⟩ : BufTy).Contents (Elt F) → (⟨S4096x100000, .f32⟩ : BufTy).Contents (Elt F) → (⟨S4096x100000, .f32⟩ : BufTy).Contents (Elt F)),
    nullary main_cst_2 (constant S_ .f32 0x7F800000#32),
    binary main_v13 main_cst_2 main_v14 ((fun x v => Host.reduce FloatOps.minimumf x v reducesTo_S4096x100000_S4096_d1 h_S_) : (⟨S4096x100000, .f32⟩ : BufTy).Contents (Elt F) → (⟨S_, .f32⟩ : BufTy).Contents (Elt F) → (⟨S4096, .f32⟩ : BufTy).Contents (Elt F)),
    unary main_v14 main_v15 (broadcastInDim S4096x1 ![0] bcast_S4096_S4096x1_0 : (⟨S4096, .f32⟩ : BufTy).Contents (Elt F) → (⟨S4096x1, .f32⟩ : BufTy).Contents (Elt F)),
    TRef.nullary main_call0.v0 (iotaInDim S4096x100000 32 1),
    TRef.nullary main_call0.cst (constant S_ .f32 0x7F800000#32),
    TRef.nullary main_call0.c (constantI S_ 32 0#32),
    TRef.quaternary (.of main_v13 : TRef sig ⟨S4096x100000, .f32⟩) main_call0.v0 main_call0.cst main_call0.c main_call0.v1_0
      (fun x y u v j => (Host.argReduce reducer_argmin_f32_i32 x y u v reducesTo_S4096x100000_S4096_d1 h_S_ j).1),
    TRef.quaternary (.of main_v13 : TRef sig ⟨S4096x100000, .f32⟩) main_call0.v0 main_call0.cst main_call0.c main_call0.v1_1
      (fun x y u v j => (Host.argReduce reducer_argmin_f32_i32 x y u v reducesTo_S4096x100000_S4096_d1 h_S_ j).2),
    unary main_v16 main_v17 (broadcastInDim S4096x1 ![0] bcast_S4096_S4096x1_0 : (⟨S4096, .i32⟩ : BufTy).Contents (Elt F) → (⟨S4096x1, .i32⟩ : BufTy).Contents (Elt F)) ]

/-- @main is the line of its operations. -/
theorem main_eq (c : Dev nD) : main (F := F) c = seq ops := rfl

/-- The program declares no scoped buffer. -/
theorem scopedRefs_eq : (Finset.univ.filter fun b : Ref sig .tc => b.isScoped) = ∅ := by decide

/-- The program declares no scoped semaphore. -/
theorem scopedSems_eq : (Finset.univ.filter fun sm : SemLoc sig => sm.isScoped .tc) = ∅ := by decide

/-- Each operation touches buffers of the one core only. -/
theorem ops_sub : (ops : List (HloOp τ sig (Elt F))).Forall fun op => op.bufs ⊆ tcRefs τ sig :=
  ⟨binary_bufs_sub ..,
    nullary_bufs_sub ..,
    binary_bufs_sub ..,
    unary_bufs_sub ..,
    binary_bufs_sub ..,
    nullary_bufs_sub ..,
    binary_bufs_sub ..,
    unary_bufs_sub ..,
    unary_bufs_sub ..,
    binary_bufs_sub ..,
    unary_bufs_sub ..,
    unary_bufs_sub ..,
    binary_bufs_sub ..,
    nullary_bufs_sub ..,
    unary_bufs_sub ..,
    binary_bufs_sub ..,
    binary_bufs_sub ..,
    nullary_bufs_sub ..,
    binary_bufs_sub ..,
    unary_bufs_sub ..,
    nullary_bufs_sub ..,
    nullary_bufs_sub ..,
    nullary_bufs_sub ..,
    quaternary_bufs_sub ..,
    quaternary_bufs_sub ..,
    unary_bufs_sub ..⟩

/-- The squared distances of the queries to the keys, as the reference computes them. -/
def refDist (q : FVec F S4096x64 .f32) (k : FVec F S100000x64 .f32) : FVec F S4096x100000 .f32 :=
  subf
    (addf
      (broadcastInDim S4096x100000 ![0, 1] bcast_S4096x1_S4096x100000_0_1
        (broadcastInDim S4096x1 ![0] bcast_S4096_S4096x1_0
          (Host.reduceAdd (mulf q q) (constant S_ .f32 0x00000000#32) reducesTo_S4096x64_S4096_d1 h_S_)))
      (broadcastInDim S4096x100000 ![0, 1] bcast_S1x100000_S4096x100000_0_1
        (broadcastInDim S1x100000 ![1] bcast_S100000_S1x100000_1
          (Host.reduceAdd (mulf k k) (constant S_ .f32 0x00000000#32) reducesTo_S100000x64_S100000_d1 h_S_))))
    (mulf (broadcastInDim S4096x100000 ![] bcast_S_S4096x100000 (constant S_ .f32 0x40000000#32))
      (Host.dotGeneral dot_S4096x64_S64x100000_S4096x100000_1_0_0_1_n_n none q
        (transpose S64x100000 [1, 0] k transposes_S100000x64_S64x100000_1_0)))

/-- The least distance of each query. -/
def refLeast (q : FVec F S4096x64 .f32) (k : FVec F S100000x64 .f32) : FVec F S4096x1 .f32 :=
  broadcastInDim S4096x1 ![0] bcast_S4096_S4096x1_0
    (Host.reduce FloatOps.minimumf (refDist q k) (constant S_ .f32 0x7F800000#32) reducesTo_S4096x100000_S4096_d1 h_S_)

/-- The number of each query's nearest key. -/
def refNearest (q : FVec F S4096x64 .f32) (k : FVec F S100000x64 .f32) : IVec S4096x1 32 :=
  broadcastInDim S4096x1 ![0] bcast_S4096_S4096x1_0
    (fun j => (Host.argReduce reducer_argmin_f32_i32 (refDist q k) (iotaInDim S4096x100000 32 1)
      (constant S_ .f32 0x7F800000#32) (constantI S_ 32 0#32) reducesTo_S4096x100000_S4096_d1 h_S_ j).2)

/-- After the run both results hold their formulas at the arguments' contents, and the arguments are as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v15) = refLeast (m ((c : Thread nD τ).loc main_arg0)) (m ((c : Thread nD τ).loc main_arg1))
      ∧ r.2.mem ((c : Thread nD τ).loc main_v17) = refNearest (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c main_v15).trans (by after_results; rfl), (h c main_v17).trans (by after_results; rfl),
      (h c main_arg0).trans (by after_results), (h c main_arg1).trans (by after_results)⟩)
    (run_seq scopedRefs_eq scopedSems_eq defs main (fun _ => ops) main_eq (fun _ => ops_sub) m ρ)

/-- The reference ends with its arguments as they were and every semaphore counter at zero: it declares none. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2.2, sem_eq_zero_of_no_sems (by decide) r.2⟩) (run m ρ)

end Cert.ReferenceIdeal.Value

end
-- ==== Proof.RefValue.lean ====
/-
  What the reference computes, in numbers: where a query's distances to the 100000 keys are all finite, its two results are
  the first minimum of them (`ref_firstMin`). The distances themselves are sums of products (`refDist_apply`).
-/
module

public import proofs.«01_k».proof.Proof.RefRun
public import proofs.«01_k».proof.Proof.FirstMin
public import proofs.«01_k».proof.Proof.RowNorm
public import Idealize.ShloMosaic.Lib.ValueIdx
public import Idealize.ShloMosaic.Lib.IdealHost
public import Idealize.ShloMosaic.Lib.Pipeline.Value

@[expose] public section

noncomputable section

open Idealize.ShloMosaic Idealize.ShloMosaic.TcCoe Idealize.SL.Sem

namespace Cert.ReferenceIdeal.Value

open Cert.ReferenceIdeal Cert.ReferenceIdeal.Gen Cert.NearestKey
open Idealize.ShloMosaic.ValueIdx

/-! ## The arg-min's choice between two pairs -/

/-- A pair comes before another one: its value is smaller, or the values are equal and its position is not larger. -/
abbrev Before (a b : EReal × BitVec 32) : Prop := a.1 < b.1 ∨ (a.1 = b.1 ∧ a.2.toInt ≤ b.2.toInt)

theorem before_refl (a : EReal × BitVec 32) : Before a a := .inr ⟨rfl, le_rfl⟩

theorem before_trans (a b c : EReal × BitVec 32) (h : Before a b) (h' : Before b c) : Before a c := by
  rcases h with h | ⟨h, hp⟩ <;> rcases h' with h' | ⟨h', hp'⟩
  · exact .inl (h.trans h')
  · exact .inl (h' ▸ h)
  · exact .inl (h ▸ h')
  · exact .inr ⟨h.trans h', hp.trans hp'⟩

/-- The arg-min's step on two pairs returns one of them. -/
theorem reducer_eq (a b : EReal × BitVec 32) :
    reducer_argmin_f32_i32 (F := Ideal) a b = if a.1 < b.1 ∨ (a.1 = b.1 ∧ a.2.toInt < b.2.toInt) then a else b := by
  obtain ⟨a1, a2⟩ := a
  obtain ⟨b1, b2⟩ := b
  unfold reducer_argmin_f32_i32
  dsimp only
  simp only [Ideal.cmpf_def, Ideal.cmp, IntOp.cmpi, BitVec.slt]
  by_cases h1 : a1 < b1
  · simp [h1, h1.ne, Scalar.select, IntOp.ori, IntOp.andi]
  · by_cases h2 : a1 = b1
    · by_cases h3 : a2.toInt < b2.toInt <;> simp [h2, h3, Scalar.select, IntOp.ori, IntOp.andi]
    · simp [h1, h2, Scalar.select, IntOp.ori, IntOp.andi]

/-- The pair it returns comes before both. -/
theorem reducer_chooses (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  rw [reducer_eq]
  split
  · next h => exact ⟨.inl rfl, before_refl a, h.imp id fun h => ⟨h.1, h.2.le⟩⟩
  · next h =>
    refine ⟨.inr rfl, ?_, before_refl b⟩
    rcases lt_trichotomy a.1 b.1 with hlt | heq | hgt
    · exact absurd (.inl hlt) h
    · exact .inr ⟨heq.symm, not_lt.1 fun hp => h (.inr ⟨heq, hp⟩)⟩
    · exact .inl hgt

/-! ## The distances -/

variable (q : FVec Ideal S4096x64 .f32) (k : FVec Ideal S100000x64 .f32)

/-- The entries of the reference's matrix product: query `R` times key `n`, coordinate by coordinate. -/
theorem product_apply (R : Fin 4096) (n : Fin 100000) :
    (Host.dotGeneral dot_S4096x64_S64x100000_S4096x100000_1_0_0_1_n_n none q
        (transpose S64x100000 [1, 0] k transposes_S100000x64_S64x100000_1_0) (ix2 R n) : EReal)
      = ∑ d : Fin 64, (q (ix2 R d) * k (ix2 n d) : EReal) := by
  simp only [Host.dotGeneral]
  rw [Ideal.dotGeneral_apply]
  refine Fintype.sum_equiv (contrEquiv1 dot_S4096x64_S64x100000_S4096x100000_1_0_0_1_n_n 64 rfl rfl) _ _ fun d => ?_
  congr 2
  · funext a
    match a with
    | ⟨0, _⟩ => rfl
    | ⟨1, _⟩ => rfl
  · rw [transpose_apply [1, 0] k transposes_S100000x64_S64x100000_1_0 _ (ix2 n (contrEquiv1 dot_S4096x64_S64x100000_S4096x100000_1_0_0_1_n_n 64 rfl rfl d))]
    intro a
    match a with
    | ⟨0, _⟩ => rfl
    | ⟨1, _⟩ => rfl

/-- A column made of a vector holds the vector's entries. -/
theorem column_apply {α : Type} (x : S4096.Idx → α) (R : Fin 4096) :
    broadcastInDim S4096x1 ![0] bcast_S4096_S4096x1_0 x (ix2 R 0) = x (ix1 R) := by
  rw [broadcastInDim_apply ![0] bcast_S4096_S4096x1_0 x (ix2 R 0) (ix1 R)]
  intro a
  match a with
  | ⟨0, _⟩ => rfl

/-- A column repeated along the keys. -/
theorem along_keys_apply {α : Type} (x : S4096x1.Idx → α) (R : Fin 4096) (n : Fin 100000) :
    broadcastInDim S4096x100000 ![0, 1] bcast_S4096x1_S4096x100000_0_1 x (ix2 R n) = x (ix2 R 0) := by
  rw [broadcastInDim_apply ![0, 1] bcast_S4096x1_S4096x100000_0_1 x (ix2 R n) (ix2 R 0)]
  intro a
  match a with
  | ⟨0, _⟩ => rfl
  | ⟨1, _⟩ => rfl

/-- A vector laid along the keys and repeated for each query. -/
theorem along_queries_apply {α : Type} (x : S100000.Idx → α) (R : Fin 4096) (n : Fin 100000) :
    broadcastInDim S4096x100000 ![0, 1] bcast_S1x100000_S4096x100000_0_1
      (broadcastInDim S1x100000 ![1] bcast_S100000_S1x100000_1 x) (ix2 R n) = x (ix1 n) := by
  rw [broadcastInDim_apply ![0, 1] bcast_S1x100000_S4096x100000_0_1 _ (ix2 R n) (ix2 0 n),
    broadcastInDim_apply ![1] bcast_S100000_S1x100000_1 x (ix2 0 n) (ix1 n)]
  · intro a
    match a with
    | ⟨0, _⟩ => rfl
  · intro a
    match a with
    | ⟨0, _⟩ => rfl
    | ⟨1, _⟩ => rfl

/-- The reference's distance of query `R` to key `n`: the two sums of squares less twice the sum of the products. -/
theorem refDist_apply (R : Fin 4096) (n : Fin 100000) :
    (refDist q k (ix2 R n) : EReal)
      = (∑ d : Fin 64, (q (ix2 R d) * q (ix2 R d) : EReal)) + (∑ d : Fin 64, (k (ix2 n d) * k (ix2 n d) : EReal))
        - Ideal.ofBits .f32 0x40000000#32 * ∑ d : Fin 64, (q (ix2 R d) * k (ix2 n d) : EReal) := by
  unfold refDist
  rw [subf_apply, addf_apply, mulf_apply, product_apply, along_keys_apply, along_queries_apply, column_apply, broadcastInDim_scalar_apply,
    rowNorm_apply q reducesTo_S4096x64_S4096_d1 (by decide) h_S_ R, rowNorm_apply k reducesTo_S100000x64_S100000_d1 (by decide) h_S_ n]
  rfl

/-! ## The two results -/

/-- An index of the distances that drops to query `R` is `R` with a key. -/
theorem drop_query (i : S4096x100000.Idx) (R : Fin 4096) :
    reducesTo_S4096x100000_S4096_d1.drop i = ix1 R ↔ ∃ n : Fin 100000, i = ix2 R n := by
  have h0 : ∀ i : S4096x100000.Idx, (reducesTo_S4096x100000_S4096_d1.drop i 0).val = (i 0).val :=
    fun i => reducesTo_S4096x100000_S4096_d1.drop_apply_val_of_eq i 0 0
  constructor
  · intro h
    refine ⟨i 1, ?_⟩
    rw [eq_ix2 i]
    congr 1
    exact Fin.ext ((h0 i).symm.trans (by rw [h]))
  · rintro ⟨n, rfl⟩
    funext a
    match a with
    | ⟨0, _⟩ => exact Fin.ext (h0 (ix2 R n))

/-- Query `R`'s distances as a sequence over the keys' numbers. -/
def refSeq (R : Fin 4096) (n : ℕ) : EReal := if h : n < 100000 then refDist q k (ix2 R ⟨n, h⟩) else 0

/-- The minimum of finite distances is one of them and at most each. -/
theorem refLeast_apply (R : Fin 4096) (hfin : ∀ n : Fin 100000, (refDist q k (ix2 R n) : EReal) < ⊤) :
    (∃ n : Fin 100000, (refLeast q k (ix2 R 0) : EReal) = refDist q k (ix2 R n))
      ∧ ∀ n : Fin 100000, (refLeast q k (ix2 R 0) : EReal) ≤ refDist q k (ix2 R n) := by
  have hb : refLeast q k (ix2 R 0) = Host.reduce FloatOps.minimumf (refDist q k) (constant S_ .f32 0x7F800000#32)
      reducesTo_S4096x100000_S4096_d1 h_S_ (ix1 R) :=
    column_apply _ R
  obtain ⟨hmem, hall⟩ := hostReduce_least (R := fun a b : EReal => a ≤ b) (fun _ => le_rfl) (fun _ _ _ => le_trans)
    minimumf_chooses reducesTo_S4096x100000_S4096_d1 (constant (F := Ideal) S_ .f32 0x7F800000#32) h_S_ (refDist q k) (ix1 R)
  rw [← hb] at hmem hall
  have hle : ∀ n : Fin 100000, (refLeast q k (ix2 R 0) : EReal) ≤ refDist q k (ix2 R n) := fun n => hall _ ((drop_query _ R).2 ⟨n, rfl⟩)
  refine ⟨?_, hle⟩
  rcases hmem with h | ⟨i, hi, h⟩
  · exact absurd ((hle 0).trans_lt (hfin 0)) (by rw [h]; exact (ofBits_inf ▸ lt_irrefl _))
  · obtain ⟨n, rfl⟩ := (drop_query i R).1 hi
    exact ⟨n, h⟩

/-- Where query `R`'s distances are finite, its results are the first minimum of them: the least one, and the number of the
    first key that has it. -/
theorem ref_firstMin (R : Fin 4096) (hfin : ∀ n : Fin 100000, (refDist q k (ix2 R n) : EReal) < ⊤) :
    ∃ a, refNearest q k (ix2 R 0) = BitVec.ofNat 32 a
      ∧ IsFirstMin (· < 100000) (refSeq q k R) (refLeast q k (ix2 R 0)) a := by
  have hb : refNearest q k (ix2 R 0) = (Host.argReduce reducer_argmin_f32_i32 (refDist q k) (iotaInDim S4096x100000 32 1)
      (constant S_ .f32 0x7F800000#32) (constantI S_ 32 0#32) reducesTo_S4096x100000_S4096_d1 h_S_ (ix1 R)).2 :=
    column_apply _ R
  obtain ⟨⟨w, hw⟩, hle⟩ := refLeast_apply q k R hfin
  obtain ⟨hmem, hall⟩ := hostReduce2_least before_refl before_trans reducer_chooses reducesTo_S4096x100000_S4096_d1
    (constant (F := Ideal) S_ .f32 0x7F800000#32) (constantI S_ 32 0#32) h_S_ (refDist q k) (iotaInDim S4096x100000 32 1) (ix1 R)
  rw [Ideal.argReduce_eq_reduce2] at hb
  generalize Host.reduce2 reducer_argmin_f32_i32 (refDist q k) (iotaInDim S4096x100000 32 1)
    (constant S_ .f32 0x7F800000#32) (constantI S_ 32 0#32) reducesTo_S4096x100000_S4096_d1 h_S_ (ix1 R) = p at hb hmem hall
  have hp : ∀ n : Fin 100000, Before p (refDist q k (ix2 R n), BitVec.ofNat 32 n.val) := fun n => hall _ ((drop_query _ R).2 ⟨n, rfl⟩)
  rcases hmem with h | ⟨i, hi, h⟩
  · exfalso
    have h1 : p.1 = ⊤ := (congrArg Prod.fst h).trans ofBits_inf
    rcases hp 0 with h' | ⟨h', -⟩
    · exact not_top_lt (h1 ▸ h')
    · exact (hfin 0).ne (h'.symm.trans h1)
  · obtain ⟨a, rfl⟩ := (drop_query i R).1 hi
    have h1 : p.1 = refDist q k (ix2 R a) := congrArg Prod.fst h
    have h2 : p.2 = BitVec.ofNat 32 a.val := congrArg Prod.snd h
    have hmin : ∀ n : Fin 100000, (refDist q k (ix2 R a) : EReal) ≤ refDist q k (ix2 R n) := by
      intro n
      rw [← h1]
      rcases hp n with h' | ⟨h', -⟩
      · exact h'.le
      · exact h'.le
    have hv : (refLeast q k (ix2 R 0) : EReal) = refDist q k (ix2 R a) := le_antisymm (hle a) (hw ▸ hmin w)
    refine ⟨a.val, hb.trans h2, a.isLt, ?_, ?_, ?_⟩
    · rw [hv, refSeq, dif_pos a.isLt]
    · intro n hn
      rw [refSeq, dif_pos hn]
      exact hle ⟨n, hn⟩
    · intro n hn hna
      rw [refSeq, dif_pos hn, hv, ← h1]
      rcases hp ⟨n, hn⟩ with h' | ⟨-, h'⟩
      · exact h'
      · exfalso
        have ha := a.isLt
        rw [h2, toInt_ofNat (by omega), toInt_ofNat (by show n < _; omega)] at h'
        have : (a.val : ℤ) ≤ n := h'
        omega

end Cert.ReferenceIdeal.Value

end
-- ==== Proof.Equation.lean ====
/-
  The kernel's results are the reference's, for moderate arguments: both are the first minimum of the same squared distances,
  the kernel's over 2400 padding keys more, none of which is nearer than a key.
-/
module

public import proofs.«01_k».proof.Defs
public import proofs.«01_k».proof.Proof.KernelInput
public import proofs.«01_k».proof.Proof.Numbers
public import proofs.«01_k».proof.Proof.RefValue
public import proofs.«01_k».proof.Proof.Gen.Pre_moderate
public import Idealize.ShloMosaic.Lib.ReduceAll

@[expose] public section

noncomputable section

open Idealize.ShloMosaic Idealize.ShloMosaic.TcCoe Idealize.SL.Sem

namespace Cert.NearestKey

open Idealize.ShloMosaic.ValueIdx
open Cert.KernelIdeal Cert.KernelIdeal.Gen Cert.KernelIdeal.Value

/-! ## The precondition -/

/-- A size compared with the bound and found no larger. -/
theorem bounded_of_ole {s : Shape} (x : FVec Ideal s .f32) (hb : (⟨0, ![]⟩ : Shape).BroadcastsInDim s (![] : Fin 0 → Fin s.rank)) (i : s.Idx)
    (h : cmpf .ole (Host.absf x) (broadcastInDim s ![] hb (constant (⟨0, ![]⟩ : Shape) .f32 0x45505000#32)) i = 1#1) :
    max (x i : EReal) (-(x i)) ≤ ((3333 : ℝ) : EReal) := by
  rw [← ofBits_bound]
  by_contra hn
  have h' : Ideal.cmp .ole (max (x i : EReal) (-(x i))) (Ideal.ofBits .f32 0x45505000#32) = 1#1 := h
  rw [Ideal.cmp] at h'
  simp [hn] at h'

/-- Moderate arguments are bounded at every index. -/
theorem moderate_bounds (q : FVec Ideal S4096x64 .f32) (k : FVec Ideal S100000x64 .f32)
    (h : Cert.Pre_moderate.fn (F := Ideal) q k = fun _ => 1#1) :
    (∀ i, max (q i : EReal) (-(q i)) ≤ ((3333 : ℝ) : EReal)) ∧ ∀ i, max (k i : EReal) (-(k i)) ≤ ((3333 : ℝ) : EReal) := by
  have h0 := congrFun h ix0
  unfold Cert.Pre_moderate.fn at h0
  obtain ⟨h1, h2⟩ := IntOp.andi_eq_one.1 h0
  haveI : Subsingleton ((⟨0, ![]⟩ : Shape)).Idx := ⟨fun a b => funext fun d => d.elim0⟩
  exact ⟨fun i => bounded_of_ole q _ i (Host.reduce_andi_all _ _ _ _ _ h1 i), fun i => bounded_of_ole k _ i (Host.reduce_andi_all _ _ _ _ _ h2 i)⟩

/-! ## The two distances -/

/-- The real number under an extended one (zero under the infinite ones). -/
abbrev rowReal {n : ℕ} (x : FVec Ideal (⟨2, ![n, 64]⟩ : Shape) .f32) (i : Fin n) (d : Fin 64) : ℝ := (x (ix2 i d) : EReal).toReal

/-- A bounded matrix's entry is its real, and that real is bounded. -/
theorem rowReal_spec {n : ℕ} {x : FVec Ideal (⟨2, ![n, 64]⟩ : Shape) .f32}
    (hx : ∀ i, max (x i : EReal) (-(x i)) ≤ ((3333 : ℝ) : EReal)) (i : Fin n) (d : Fin 64) :
    (x (ix2 i d) : EReal) = (rowReal x i d : EReal) ∧ |rowReal x i d| ≤ 3333 := by
  obtain ⟨r, hr, hb⟩ := real_of_bounded (hx (ix2 i d))
  have h : rowReal x i d = r := by rw [rowReal, hr, EReal.toReal_coe]
  rw [h]
  exact ⟨hr, hb⟩

variable (m : (ℓ : Loc nD τ sig) → Buf (Elt Ideal) ℓ) (c : Dev nD)

/-- The kernel's distance to a padded row of reals `b`. -/
theorem kernelDist_real (hq : ∀ i, max (queryArg m c i : EReal) (-(queryArg m c i)) ≤ ((3333 : ℝ) : EReal)) (R : Fin 4096) {n : ℕ}
    (h : n < 102400) (b : Fin 64 → ℝ) (hb : ∀ d, (paddedKeys m c (ix2 ⟨n, h⟩ d) : EReal) = (b d : EReal)) :
    kernelDist m c R n = ((sqDist (rowReal (queryArg m c) R) b : ℝ) : EReal) := by
  have hV : queriesIn m c = queryArg m c := V_main_arg0 m c
  rw [kernelDist, dif_pos h, queryNormsIn_apply, keyNormsIn_apply, hV, ← doubled_keys_form]
  refine congrArg₂ _ (congrArg₂ _ ?_ ?_) ?_
  · exact Finset.sum_congr rfl fun d _ => by rw [(rowReal_spec hq R d).1]
  · exact Finset.sum_congr rfl fun d _ => by rw [hb d]
  · exact Finset.sum_congr rfl fun d _ => by rw [keysIn_apply, hb d, (rowReal_spec hq R d).1, ofBits_two]

/-- The reference's distance. -/
theorem refDist_real {q : FVec Ideal S4096x64 .f32} {k : FVec Ideal S100000x64 .f32}
    (hq : ∀ i, max (q i : EReal) (-(q i)) ≤ ((3333 : ℝ) : EReal)) (hk : ∀ i, max (k i : EReal) (-(k i)) ≤ ((3333 : ℝ) : EReal))
    (R : Fin 4096) (n : Fin 100000) :
    (Cert.ReferenceIdeal.Value.refDist q k (ix2 R n) : EReal) = ((sqDist (rowReal q R) (rowReal k n) : ℝ) : EReal) := by
  rw [Cert.ReferenceIdeal.Value.refDist_apply, ← doubled_product_form, ofBits_two]
  refine congrArg₂ _ (congrArg₂ _ ?_ ?_) (congrArg _ ?_)
  · exact Finset.sum_congr rfl fun d _ => by rw [(rowReal_spec hq R d).1]
  · exact Finset.sum_congr rfl fun d _ => by rw [(rowReal_spec hk n d).1]
  · exact Finset.sum_congr rfl fun d _ => by rw [(rowReal_spec hq R d).1, (rowReal_spec hk n d).1]

/-! ## The results -/

/-- At each query the kernel's two results are the reference's. -/
theorem results_row (h : Cert.Pre_moderate.fn (F := Ideal) (queryArg m c) (keyArg m c) = fun _ => 1#1) (R : Fin 4096) :
    leastOut m c (ix2 R 0) = Cert.ReferenceIdeal.Value.refLeast (queryArg m c) (keyArg m c) (ix2 R 0)
      ∧ nearestOut m c (ix2 R 0) = Cert.ReferenceIdeal.Value.refNearest (queryArg m c) (keyArg m c) (ix2 R 0) := by
  obtain ⟨hq, hk⟩ := moderate_bounds _ _ h
  have hkey : ∀ n (hn : n < 100000), kernelDist m c R n = ((sqDist (rowReal (queryArg m c) R) (rowReal (keyArg m c) ⟨n, hn⟩) : ℝ) : EReal) :=
    fun n hn => kernelDist_real m c hq R (by omega) _ fun d => by rw [paddedKeys_key m c hn d]; exact (rowReal_spec hk ⟨n, hn⟩ d).1
  have hpad : ∀ n, 100000 ≤ n → n < 102400 → ∃ k, k < 100000 ∧ kernelDist m c R k ≤ kernelDist m c R n := by
    intro n hn hn'
    refine ⟨0, by omega, ?_⟩
    rw [hkey 0 (by omega), kernelDist_real m c hq R hn' (fun _ => 10000) fun d => by rw [paddedKeys_padding m c hn hn' d, ofBits_padding]]
    exact EReal.coe_le_coe_iff.2 (padding_far (fun d => (rowReal_spec hq R d).2) fun d => (rowReal_spec hk ⟨0, by omega⟩ d).2)
  obtain ⟨a, ha, hmin⟩ := results_firstMin m c R
  obtain ⟨b, hb, hmin'⟩ := Cert.ReferenceIdeal.Value.ref_firstMin (queryArg m c) (keyArg m c) R fun n => by
    rw [refDist_real hq hk R n]
    exact EReal.coe_lt_top _
  have hsame := (hmin.restrict (M := 100000) (by omega) hpad).congr_fun (g := Cert.ReferenceIdeal.Value.refSeq (queryArg m c) (keyArg m c) R)
    fun n hn => by rw [Cert.ReferenceIdeal.Value.refSeq, dif_pos hn, hkey n hn]; exact refDist_real hq hk R ⟨n, hn⟩
  obtain ⟨hv, hab⟩ := hsame.unique hmin'
  exact ⟨hv, by rw [ha, hb, hab]⟩

/-- So the result arrays are equal. -/
theorem results_eq (h : Cert.Pre_moderate.fn (F := Ideal) (queryArg m c) (keyArg m c) = fun _ => 1#1) :
    leastOut m c = Cert.ReferenceIdeal.Value.refLeast (queryArg m c) (keyArg m c)
      ∧ nearestOut m c = Cert.ReferenceIdeal.Value.refNearest (queryArg m c) (keyArg m c) :=
  ⟨funext fun j => by rw [column_idx j]; exact (results_row m c h (j 0)).1,
    funext fun j => by rw [column_idx j]; exact (results_row m c h (j 0)).2⟩

/-- The kernel's run and the reference's end with the same results, from moderate arguments that agree. -/
theorem algebraic : Cert.algebraic_KernelIdeal_ReferenceIdeal_pre_moderate := by
  intro m g m' g' hpre hargs
  refine ⟨fun c => leastOut m c, fun c => nearestOut m c, Cert.KernelIdeal.Value.run m g,
    (θ_run _ _ _).mono (fun r hr c => ?_) (Cert.ReferenceIdeal.Value.run m' g')⟩
  obtain ⟨h0, h1, hkept⟩ := hr c
  obtain ⟨e0, e1⟩ := results_eq m c (hpre c)
  rw [(hargs c).1, (hargs c).2] at h0 h1
  exact ⟨h0.trans e0.symm, h1.trans e1.symm, hkept⟩

end Cert.NearestKey

end
-- ==== Proof.lean ====
/-
  The certificate: the three programs end with their arguments as they were and every semaphore counter at zero, with and
  without the precondition; the idealized kernel is the kernel's own program; and its two results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_moderate
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.SL.Sem

/-- Every claim of the certificate holds. -/
theorem claim : Cert.Claim :=
  ⟨Cert.Kernel.Gen.facts, Cert.KernelIdeal.Gen.facts, Cert.ReferenceIdeal.Gen.facts, Cert.Pre_moderate.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Value.frame m ρ,
    fun m ρ _ => Cert.ReferenceIdeal.Value.frame m ρ,
    trivial,
    Cert.NearestKey.algebraic⟩

end Cert.Proof

end
